-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v86_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v86_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S_ : Shape := ⟨0, ![]⟩

class Facts : Prop where
  bcast_S_S32x2048x8x64 : S_.BroadcastsInDim S32x2048x8x64 (![] : Fin 0 → Fin S32x2048x8x64.rank)
  bcast_S_S32x2048x8x32 : S_.BroadcastsInDim S32x2048x8x32 (![] : Fin 0 → Fin S32x2048x8x32.rank)
  bcast_S_S32x2048x32 : S_.BroadcastsInDim S32x2048x32 (![] : Fin 0 → Fin S32x2048x32.rank)

variable [Facts]

def fn {F : FTy → Type} [FloatOps F] (main_arg0 : FVec F S32x2048x8x64 .f32) (main_arg1 : FVec F S32x2048x8x32 .f32) (main_arg2 : FVec F S32x2048x8x64 .f32) (main_arg3 : FVec F S32x2048x32 .f32) (main_arg4 : FVec F S32x2048x8x64 .f32) : IVec S32x2048x8x64 1 × IVec S32x2048x8x32 1 × IVec S32x2048x8x64 1 × IVec S32x2048x32 1 :=
  let main_v0 : FVec F S32x2048x8x64 .f32 := Host.absf main_arg0
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_v3 : FVec F S32x2048x8x32 .f32 := Host.absf main_arg1
  let main_cst_0 : FVec F S_ .f32 := constant S_ .f32 0x7F800000#32
  let main_v4 : FVec F S32x2048x8x32 .f32 := broadcastInDim S32x2048x8x32 ![] bcast_S_S32x2048x8x32 main_cst_0
  let main_v5 : IVec S32x2048x8x32 1 := cmpf .olt main_v3 main_v4
  let main_v6 : FVec F S32x2048x8x64 .f32 := Host.absf main_arg2
  let main_cst_1 : FVec F S_ .f32 := constant S_ .f32 0x7F800000#32
  let main_v7 : FVec F S32x2048x8x64 .f32 := broadcastInDim S32x2048x8x64 ![] bcast_S_S32x2048x8x64 main_cst_1
  let main_v8 : IVec S32x2048x8x64 1 := cmpf .olt main_v6 main_v7
  let main_v9 : FVec F S32x2048x32 .f32 := Host.absf main_arg3
  let main_cst_2 : FVec F S_ .f32 := constant S_ .f32 0x7F800000#32
  let main_v10 : FVec F S32x2048x32 .f32 := broadcastInDim S32x2048x32 ![] bcast_S_S32x2048x32 main_cst_2
  let main_v11 : IVec S32x2048x32 1 := cmpf .olt main_v9 main_v10
  (main_v2, main_v5, main_v8, main_v11)
-- ==== Kernel.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S_ : Shape := ⟨0, ![]⟩
abbrev S32x2048x8x96 : Shape := ⟨4, ![32, 2048, 8, 96]⟩
abbrev S32x2048x8x128 : Shape := ⟨4, ![32, 2048, 8, 128]⟩
abbrev S32x8x256x1024 : Shape := ⟨4, ![32, 8, 256, 1024]⟩
abbrev S32x8x1024x256 : Shape := ⟨4, ![32, 8, 1024, 256]⟩
abbrev S32x2048x1x32 : Shape := ⟨4, ![32, 2048, 1, 32]⟩
abbrev S65536x1024 : Shape := ⟨2, ![65536, 1024]⟩
abbrev S32x2048x8x16 : Shape := ⟨4, ![32, 2048, 8, 16]⟩
abbrev S32x2048x8x80 : Shape := ⟨4, ![32, 2048, 8, 80]⟩
abbrev S32x8x256x640 : Shape := ⟨4, ![32, 8, 256, 640]⟩
abbrev S32x8x640x256 : Shape := ⟨4, ![32, 8, 640, 256]⟩
abbrev S32x8x512x256 : Shape := ⟨4, ![32, 8, 512, 256]⟩
abbrev S1x8x256x256 : Shape := ⟨4, ![1, 8, 256, 256]⟩
abbrev S2048x256 : Shape := ⟨2, ![2048, 256]⟩
abbrev S1x8x160x256 : Shape := ⟨4, ![1, 8, 160, 256]⟩
abbrev S1x8x128x256 : Shape := ⟨4, ![1, 8, 128, 256]⟩
abbrev S2x256x256 : Shape := ⟨3, ![2, 256, 256]⟩
abbrev S256x256 : Shape := ⟨2, ![256, 256]⟩
abbrev S1x256 : Shape := ⟨2, ![1, 256]⟩
abbrev S80x256 : Shape := ⟨2, ![80, 256]⟩
abbrev S256x128 : Shape := ⟨2, ![256, 128]⟩
abbrev S1x1x128x256 : Shape := ⟨4, ![1, 1, 128, 256]⟩
abbrev S128x256 : Shape := ⟨2, ![128, 256]⟩
abbrev S1x256x256 : Shape := ⟨3, ![1, 256, 256]⟩
abbrev S256 : Shape := ⟨1, ![256]⟩
abbrev S1x1x80x256 : Shape := ⟨4, ![1, 1, 80, 256]⟩
abbrev S64x256 : Shape := ⟨2, ![64, 256]⟩
abbrev S1x1x64x256 : Shape := ⟨4, ![1, 1, 64, 256]⟩

abbrev nBuf : Space → Nat
  | .hbm => 36
  | .vmem => 10
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x32, .f32⟩
  | .hbm, ⟨2, _⟩ => ⟨S32x2048x8x64, .f32⟩
  | .hbm, ⟨3, _⟩ => ⟨S32x2048x32, .f32⟩
  | .hbm, ⟨4, _⟩ => ⟨S32x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048x8x96, .f32⟩
  | .hbm, ⟨13, _⟩ => ⟨S32x2048x8x96, .f32⟩
  | .hbm, ⟨14, _⟩ => ⟨S32x2048x8x96, .f32⟩
  | .hbm, ⟨15, _⟩ => ⟨S_, .f32⟩
  | .hbm, ⟨16, _⟩ => ⟨S32x2048x8x32, .f32⟩
  | .hbm, ⟨17, _⟩ => ⟨S32x2048x8x128, .f32⟩
  | .hbm, ⟨18, _⟩ => ⟨S32x2048x8x128, .bf16⟩
  | .hbm, ⟨19, _⟩ => ⟨S32x8x256x1024, .bf16⟩
  | .hbm, ⟨20, _⟩ => ⟨S32x8x1024x256, .bf16⟩
  | .hbm, ⟨21, _⟩ => ⟨S32x2048x1x32, .f32⟩
  | .hbm, ⟨22, _⟩ => ⟨S32x2048x8x32, .f32⟩
  | .hbm, ⟨23, _⟩ => ⟨S32x2048x8x96, .f32⟩
  | .hbm, ⟨24, _⟩ => ⟨S_, .f32⟩
  | .hbm, ⟨25, _⟩ => ⟨S32x2048x8x32, .f32⟩
  | .hbm, ⟨26, _⟩ => ⟨S32x2048x8x128, .f32⟩
  | .hbm, ⟨27, _⟩ => ⟨S32x2048x8x128, .bf16⟩
  | .hbm, ⟨28, _⟩ => ⟨S65536x1024, .bf16⟩
  | .hbm, ⟨29, _⟩ => ⟨S_, .f32⟩
  | .hbm, ⟨30, _⟩ => ⟨S32x2048x8x16, .f32⟩
  | .hbm, ⟨31, _⟩ => ⟨S32x2048x8x80, .f32⟩
  | .hbm, ⟨32, _⟩ => ⟨S32x2048x8x80, .bf16⟩
  | .hbm, ⟨33, _⟩ => ⟨S32x8x256x640, .bf16⟩
  | .hbm, ⟨34, _⟩ => ⟨S32x8x640x256, .bf16⟩
  | .hbm, ⟨35, _⟩ => ⟨S32x8x512x256, .f32⟩
  | .local _ .vmem, ⟨0, _⟩ => ⟨S1x8x256x256, .bf16⟩
  | .local _ .vmem, ⟨1, _⟩ => ⟨S1x8x256x256, .bf16⟩
  | .local _ .vmem, ⟨2, _⟩ => ⟨S2048x256, .bf16⟩
  | .local _ .vmem, ⟨3, _⟩ => ⟨S2048x256, .bf16⟩
  | .local _ .vmem, ⟨4, _⟩ => ⟨S1x8x160x256, .bf16⟩
  | .local _ .vmem, ⟨5, _⟩ => ⟨S1x8x160x256, .bf16⟩
  | .local _ .vmem, ⟨6, _⟩ => ⟨S1x8x128x256, .f32⟩
  | .local _ .vmem, ⟨7, _⟩ => ⟨S1x8x128x256, .f32⟩
  | .local _ .vmem, ⟨8, _⟩ => ⟨S2x256x256, .f32⟩
  | .local _ .vmem, ⟨9, _⟩ => ⟨S2x256x256, .bf16⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S_ : Shape := ⟨0, ![]⟩
abbrev S32x8x2048x2048 : Shape := ⟨4, ![32, 8, 2048, 2048]⟩
abbrev S32x2048x2048x8 : Shape := ⟨4, ![32, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x8x256x512 : Shape := ⟨4, ![32, 8, 256, 512]⟩
abbrev S32x8x512x256 : Shape := ⟨4, ![32, 8, 512, 256]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x32, .f32⟩
  | .hbm, ⟨2, _⟩ => ⟨S32x2048x8x64, .f32⟩
  | .hbm, ⟨3, _⟩ => ⟨S32x2048x32, .f32⟩
  | .hbm, ⟨4, _⟩ => ⟨S32x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x8x2048x2048, .f32⟩
  | .hbm, ⟨10, _⟩ => ⟨S32x2048x2048x8, .f32⟩
  | .hbm, ⟨11, _⟩ => ⟨S32x8x2048x2048, .f32⟩
  | .hbm, ⟨12, _⟩ => ⟨S32x8x2048x2048, .f32⟩
  | .hbm, ⟨13, _⟩ => ⟨S32x8x2048x2048, .f32⟩
  | .hbm, ⟨14, _⟩ => ⟨S32x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x1x2048x2048, .i1⟩
  | .hbm, ⟨22, _⟩ => ⟨S_, .f32⟩
  | .hbm, ⟨23, _⟩ => ⟨S_, .f32⟩
  | .hbm, ⟨24, _⟩ => ⟨S32x8x2048x2048, .i1⟩
  | .hbm, ⟨25, _⟩ => ⟨S32x8x2048x2048, .f32⟩
  | .hbm, ⟨26, _⟩ => ⟨S32x8x2048x2048, .f32⟩
  | .hbm, ⟨27, _⟩ => ⟨S_, .f32⟩
  | .hbm, ⟨28, _⟩ => ⟨S32x8x2048, .f32⟩
  | .hbm, ⟨29, _⟩ => ⟨S_, .f32⟩
  | .hbm, ⟨30, _⟩ => ⟨S32x8x2048, .f32⟩
  | .hbm, ⟨31, _⟩ => ⟨S32x8x2048, .f32⟩
  | .hbm, ⟨32, _⟩ => ⟨S32x8x2048x1, .f32⟩
  | .hbm, ⟨33, _⟩ => ⟨S32x8x2048x2048, .f32⟩
  | .hbm, ⟨34, _⟩ => ⟨S32x8x2048x2048, .f32⟩
  | .hbm, ⟨35, _⟩ => ⟨S32x8x2048x2048, .f32⟩
  | .hbm, ⟨36, _⟩ => ⟨S_, .f32⟩
  | .hbm, ⟨37, _⟩ => ⟨S32x8x2048, .f32⟩
  | .hbm, ⟨38, _⟩ => ⟨S32x8x2048x1, .f32⟩
  | .hbm, ⟨39, _⟩ => ⟨S32x8x2048x2048, .f32⟩
  | .hbm, ⟨40, _⟩ => ⟨S32x8x2048x2048, .f32⟩
  | .hbm, ⟨41, _⟩ => ⟨S32x8x64x2048, .f32⟩
  | .hbm, ⟨42, _⟩ => ⟨S32x2048x8x64, .f32⟩
  | .hbm, ⟨43, _⟩ => ⟨S32x8x256x512, .f32⟩
  | .hbm, ⟨44, _⟩ => ⟨S32x8x512x256, .f32⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S65536x1024 : Shape := ⟨2, ![65536, 1024]⟩
abbrev S32x8x256x512 : Shape := ⟨4, ![32, 8, 256, 512]⟩
abbrev S32x8x512x256 : Shape := ⟨4, ![32, 8, 512, 256]⟩
abbrev S32x16x128x512 : Shape := ⟨4, ![32, 16, 128, 512]⟩
abbrev S32x16x512x128 : Shape := ⟨4, ![32, 16, 512, 128]⟩
abbrev S1024x1024 : Shape := ⟨2, ![1024, 1024]⟩
abbrev S512 : Shape := ⟨1, ![512]⟩
abbrev S512x1024 : Shape := ⟨2, ![512, 1024]⟩
abbrev S1024x2816 : Shape := ⟨2, ![1024, 2816]⟩
abbrev S2816x1024 : Shape := ⟨2, ![2816, 1024]⟩
abbrev S1x2x512x256 : Shape := ⟨4, ![1, 2, 512, 256]⟩
abbrev S1x4x512x128 : Shape := ⟨4, ![1, 4, 512, 128]⟩
abbrev S512x512 : Shape := ⟨2, ![512, 512]⟩
abbrev S1x1x512x256 : Shape := ⟨4, ![1, 1, 512, 256]⟩
abbrev S512x256 : Shape := ⟨2, ![512, 256]⟩
abbrev S256x512 : Shape := ⟨2, ![256, 512]⟩
abbrev S1x1x512x128 : Shape := ⟨4, ![1, 1, 512, 128]⟩
abbrev S512x128 : Shape := ⟨2, ![512, 128]⟩
abbrev S128x512 : Shape := ⟨2, ![128, 512]⟩
abbrev S512x1 : Shape := ⟨2, ![512, 1]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1024x5632 : Shape := ⟨2, ![1024, 5632]⟩
abbrev S512x5632 : Shape := ⟨2, ![512, 5632]⟩
abbrev S512x2816 : Shape := ⟨2, ![512, 2816]⟩

abbrev nBuf : Space → Nat
  | .hbm => 34
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S65536x1024, .f32⟩
  | .hbm, ⟨12, _⟩ => ⟨S32x8x256x512, .f32⟩
  | .hbm, ⟨13, _⟩ => ⟨S32x8x512x256, .f32⟩
  | .hbm, ⟨14, _⟩ => ⟨S32x16x128x512, .f32⟩
  | .hbm, ⟨15, _⟩ => ⟨S32x16x512x128, .f32⟩
  | .hbm, ⟨16, _⟩ => ⟨S1024x1024, .f32⟩
  | .hbm, ⟨17, _⟩ => ⟨S1024x1024, .bf16⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S512x1024, .bf16⟩
  | .hbm, ⟨23, _⟩ => ⟨S512x1024, .bf16⟩
  | .hbm, ⟨24, _⟩ => ⟨S1024, .f32⟩
  | .hbm, ⟨25, _⟩ => ⟨S1x1024, .f32⟩
  | .hbm, ⟨26, _⟩ => ⟨S1024x2816, .f32⟩
  | .hbm, ⟨27, _⟩ => ⟨S1024x2816, .bf16⟩
  | .hbm, ⟨28, _⟩ => ⟨S1024x2816, .f32⟩
  | .hbm, ⟨29, _⟩ => ⟨S1024x2816, .bf16⟩
  | .hbm, ⟨30, _⟩ => ⟨S2816x1024, .f32⟩
  | .hbm, ⟨31, _⟩ => ⟨S2816x1024, .bf16⟩
  | .hbm, ⟨32, _⟩ => ⟨S1x1024, .f32⟩
  | .hbm, ⟨33, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x2x512x256, .f32⟩
  | .local _ .vmem, ⟨3, _⟩ => ⟨S1x2x512x256, .f32⟩
  | .local _ .vmem, ⟨4, _⟩ => ⟨S1x4x512x128, .f32⟩
  | .local _ .vmem, ⟨5, _⟩ => ⟨S1x4x512x128, .f32⟩
  | .local _ .vmem, ⟨6, _⟩ => ⟨S1x2x512x256, .f32⟩
  | .local _ .vmem, ⟨7, _⟩ => ⟨S1x4x512x128, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x512, .bf16⟩
  | .local _ .vmem, ⟨20, _⟩ => ⟨S512x512, .bf16⟩
  | .local _ .vmem, ⟨21, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c128_i32 : BitVec 32 := 128#32
  let v3 : BitVec 1 := Scalar.cmpi .slt arg0 c128_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c128_i32_2 : BitVec 32 := 128#32
  let v6 : BitVec 1 := Scalar.cmpi .eq arg0 c128_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c127_i32_6 : BitVec 32 := 127#32
  let v20 : BitVec 32 := Scalar.minsi v19 c127_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  ![v18.toNat, v30.toNat, c0_i32_13.toNat, c0_i32_14.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c127_i32_6 : BitVec 32 := 127#32
  let v20 : BitVec 32 := Scalar.minsi v19 c127_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  ![v18.toNat, v30.toNat, c0_i32_13.toNat, c0_i32_14.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32x2048x1024 : Shape := ⟨3, ![32, 2048, 1024]⟩
abbrev S32x2048x512 : Shape := ⟨3, ![32, 2048, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512 : Shape := ⟨1, ![512]⟩
abbrev S_ : Shape := ⟨0, ![]⟩
abbrev S32x2048 : Shape := ⟨2, ![32, 2048]⟩
abbrev S32x2048x1 : Shape := ⟨3, ![32, 2048, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x2816 : Shape := ⟨2, ![1024, 2816]⟩
abbrev S2816x1024 : Shape := ⟨2, ![2816, 1024]⟩
abbrev S32x2048x2816 : Shape := ⟨3, ![32, 2048, 2816]⟩
abbrev S65536x1024 : Shape := ⟨2, ![65536, 1024]⟩

abbrev nBuf : Space → Nat
  | .hbm => 103
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S512, .f32⟩
  | .hbm, ⟨12, _⟩ => ⟨S32x2048x512, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x512, .f32⟩
  | .hbm, ⟨24, _⟩ => ⟨S32x2048x512, .f32⟩
  | .hbm, ⟨25, _⟩ => ⟨S1x1x512, .f32⟩
  | .hbm, ⟨26, _⟩ => ⟨S32x2048x512, .f32⟩
  | .hbm, ⟨27, _⟩ => ⟨S32x2048x512, .f32⟩
  | .hbm, ⟨28, _⟩ => ⟨S512, .f32⟩
  | .hbm, ⟨29, _⟩ => ⟨S32x2048x512, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x512, .f32⟩
  | .hbm, ⟨41, _⟩ => ⟨S32x2048x512, .f32⟩
  | .hbm, ⟨42, _⟩ => ⟨S1x1x512, .f32⟩
  | .hbm, ⟨43, _⟩ => ⟨S32x2048x512, .f32⟩
  | .hbm, ⟨44, _⟩ => ⟨S32x2048x512, .f32⟩
  | .hbm, ⟨45, _⟩ => ⟨S32x2048x1024, .f32⟩
  | .hbm, ⟨46, _⟩ => ⟨S1024x1024, .f32⟩
  | .hbm, ⟨47, _⟩ => ⟨S32x2048x1024, .f32⟩
  | .hbm, ⟨48, _⟩ => ⟨S32x2048x1024, .f32⟩
  | .hbm, ⟨49, _⟩ => ⟨S1024, .f32⟩
  | .hbm, ⟨50, _⟩ => ⟨S32x2048x1024, .f32⟩
  | .hbm, ⟨51, _⟩ => ⟨S_, .f32⟩
  | .hbm, ⟨52, _⟩ => ⟨S32x2048, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S32x2048x1, .f32⟩
  | .hbm, ⟨61, _⟩ => ⟨S32x2048x1024, .f32⟩
  | .hbm, ⟨62, _⟩ => ⟨S32x2048x1024, .f32⟩
  | .hbm, ⟨63, _⟩ => ⟨S1x1x1024, .f32⟩
  | .hbm, ⟨64, _⟩ => ⟨S32x2048x1024, .f32⟩
  | .hbm, ⟨65, _⟩ => ⟨S32x2048x1024, .f32⟩
  | .hbm, ⟨66, _⟩ => ⟨S1024x2816, .f32⟩
  | .hbm, ⟨67, _⟩ => ⟨S1024x2816, .f32⟩
  | .hbm, ⟨68, _⟩ => ⟨S2816x1024, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S_, .f32⟩
  | .hbm, ⟨73, _⟩ => ⟨S32x2048x2816, .f32⟩
  | .hbm, ⟨74, _⟩ => ⟨S32x2048x2816, .f32⟩
  | .hbm, ⟨75, _⟩ => ⟨S_, .f32⟩
  | .hbm, ⟨76, _⟩ => ⟨S32x2048x2816, .f32⟩
  | .hbm, ⟨77, _⟩ => ⟨S32x2048x2816, .f32⟩
  | .hbm, ⟨78, _⟩ => ⟨S32x2048x2816, .f32⟩
  | .hbm, ⟨79, _⟩ => ⟨S32x2048x2816, .f32⟩
  | .hbm, ⟨80, _⟩ => ⟨S32x2048x2816, .f32⟩
  | .hbm, ⟨81, _⟩ => ⟨S32x2048x1024, .f32⟩
  | .hbm, ⟨82, _⟩ => ⟨S_, .f32⟩
  | .hbm, ⟨83, _⟩ => ⟨S32x2048x1024, .f32⟩
  | .hbm, ⟨84, _⟩ => ⟨S32x2048x1024, .f32⟩
  | .hbm, ⟨85, _⟩ => ⟨S32x2048x1024, .f32⟩
  | .hbm, ⟨86, _⟩ => ⟨S32x2048x1024, .f32⟩
  | .hbm, ⟨87, _⟩ => ⟨S_, .f32⟩
  | .hbm, ⟨88, _⟩ => ⟨S32x2048, .f32⟩
  | .hbm, ⟨89, _⟩ => ⟨S32x2048x1, .f32⟩
  | .hbm, ⟨90, _⟩ => ⟨S_, .f32⟩
  | .hbm, ⟨91, _⟩ => ⟨S32x2048x1, .f32⟩
  | .hbm, ⟨92, _⟩ => ⟨S32x2048x1, .f32⟩
  | .hbm, ⟨93, _⟩ => ⟨S_, .f32⟩
  | .hbm, ⟨94, _⟩ => ⟨S32x2048x1, .f32⟩
  | .hbm, ⟨95, _⟩ => ⟨S32x2048x1, .f32⟩
  | .hbm, ⟨96, _⟩ => ⟨S32x2048x1, .f32⟩
  | .hbm, ⟨97, _⟩ => ⟨S32x2048x1024, .f32⟩
  | .hbm, ⟨98, _⟩ => ⟨S32x2048x1024, .f32⟩
  | .hbm, ⟨99, _⟩ => ⟨S1x1x1024, .f32⟩
  | .hbm, ⟨100, _⟩ => ⟨S32x2048x1024, .f32⟩
  | .hbm, ⟨101, _⟩ => ⟨S32x2048x1024, .f32⟩
  | .hbm, ⟨102, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel3.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S65536x1024 : Shape := ⟨2, ![65536, 1024]⟩
abbrev S1024x1184 : Shape := ⟨2, ![1024, 1184]⟩
abbrev S1024x32 : Shape := ⟨2, ![1024, 32]⟩
abbrev S_ : Shape := ⟨0, ![]⟩
abbrev S1024x128 : Shape := ⟨2, ![1024, 128]⟩
abbrev S1024x384 : Shape := ⟨2, ![1024, 384]⟩
abbrev S1024x768 : Shape := ⟨2, ![1024, 768]⟩
abbrev S1024x1280 : Shape := ⟨2, ![1024, 1280]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S1024x256 : Shape := ⟨2, ![1024, 256]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S512x128 : Shape := ⟨2, ![512, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S16x2048 : Shape := ⟨2, ![16, 2048]⟩
abbrev S32x2048 : Shape := ⟨2, ![32, 2048]⟩
abbrev S2048x64 : Shape := ⟨2, ![2048, 64]⟩
abbrev S2048x32 : Shape := ⟨2, ![2048, 32]⟩
abbrev S2048x48 : Shape := ⟨2, ![2048, 48]⟩
abbrev S2048x80 : Shape := ⟨2, ![2048, 80]⟩
abbrev S2048x384 : Shape := ⟨2, ![2048, 384]⟩
abbrev S1024 : Shape := ⟨1, ![1024]⟩
abbrev S1024x2816 : Shape := ⟨2, ![1024, 2816]⟩
abbrev S2816x1024 : Shape := ⟨2, ![2816, 1024]⟩
abbrev S256 : Shape := ⟨1, ![256]⟩
abbrev S128 : Shape := ⟨1, ![128]⟩
abbrev S32x8x1024x256 : Shape := ⟨4, ![32, 8, 1024, 256]⟩
abbrev S32x8x640x256 : Shape := ⟨4, ![32, 8, 640, 256]⟩
abbrev S32x16x512x128 : Shape := ⟨4, ![32, 16, 512, 128]⟩
abbrev S65536x256 : Shape := ⟨2, ![65536, 256]⟩
abbrev S32x16x160x128 : Shape := ⟨4, ![32, 16, 160, 128]⟩
abbrev S512x1024 : Shape := ⟨2, ![512, 1024]⟩
abbrev S32x512 : Shape := ⟨2, ![32, 512]⟩
abbrev S512x384 : Shape := ⟨2, ![512, 384]⟩
abbrev S1x2x1024x256 : Shape := ⟨4, ![1, 2, 1024, 256]⟩
abbrev S1x2x640x256 : Shape := ⟨4, ![1, 2, 640, 256]⟩
abbrev S1x4x512x128 : Shape := ⟨4, ![1, 4, 512, 128]⟩
abbrev S512x256 : Shape := ⟨2, ![512, 256]⟩
abbrev S1x4x160x128 : Shape := ⟨4, ![1, 4, 160, 128]⟩
abbrev S512 : Shape := ⟨1, ![512]⟩
abbrev S512x1 : Shape := ⟨2, ![512, 1]⟩
abbrev S512x2816 : Shape := ⟨2, ![512, 2816]⟩
abbrev S512x1280 : Shape := ⟨2, ![512, 1280]⟩
abbrev S1024x512 : Shape := ⟨2, ![1024, 512]⟩
abbrev S16x512 : Shape := ⟨2, ![16, 512]⟩
abbrev S64x512 : Shape := ⟨2, ![64, 512]⟩
abbrev S128x256 : Shape := ⟨2, ![128, 256]⟩
abbrev S1x1x128x256 : Shape := ⟨4, ![1, 1, 128, 256]⟩
abbrev S512x512 : Shape := ⟨2, ![512, 512]⟩
abbrev S640x512 : Shape := ⟨2, ![640, 512]⟩
abbrev S640x256 : Shape := ⟨2, ![640, 256]⟩
abbrev S1x1x640x256 : Shape := ⟨4, ![1, 1, 640, 256]⟩
abbrev S160x512 : Shape := ⟨2, ![160, 512]⟩
abbrev S1x1x512x128 : Shape := ⟨4, ![1, 1, 512, 128]⟩
abbrev S160x128 : Shape := ⟨2, ![160, 128]⟩
abbrev S1x1x160x128 : Shape := ⟨4, ![1, 1, 160, 128]⟩
abbrev S512x64 : Shape := ⟨2, ![512, 64]⟩

abbrev nBuf : Space → Nat
  | .hbm => 125
  | .vmem => 35
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x1184, .f32⟩
  | .hbm, ⟨7, _⟩ => ⟨S1x256, .f32⟩
  | .hbm, ⟨8, _⟩ => ⟨S1x256x768, .f32⟩
  | .hbm, ⟨9, _⟩ => ⟨S1x128, .f32⟩
  | .hbm, ⟨10, _⟩ => ⟨S1x128x1024, .f32⟩
  | .hbm, ⟨11, _⟩ => ⟨S65536x1024, .f32⟩
  | .hbm, ⟨12, _⟩ => ⟨S1024x1184, .f32⟩
  | .hbm, ⟨13, _⟩ => ⟨S1024x1184, .bf16⟩
  | .hbm, ⟨14, _⟩ => ⟨S1024x32, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S1024x384, .bf16⟩
  | .hbm, ⟨19, _⟩ => ⟨S1024x768, .bf16⟩
  | .hbm, ⟨20, _⟩ => ⟨S1024x1280, .bf16⟩
  | .hbm, ⟨21, _⟩ => ⟨S256x768, .f32⟩
  | .hbm, ⟨22, _⟩ => ⟨S256x768, .bf16⟩
  | .hbm, ⟨23, _⟩ => ⟨S256x8x96, .bf16⟩
  | .hbm, ⟨24, _⟩ => ⟨S_, .i32⟩
  | .hbm, ⟨25, _⟩ => ⟨S_, .bf16⟩
  | .hbm, ⟨26, _⟩ => ⟨S256x8x128, .bf16⟩
  | .hbm, ⟨27, _⟩ => ⟨S256x1024, .bf16⟩
  | .hbm, ⟨28, _⟩ => ⟨S1024x256, .bf16⟩
  | .hbm, ⟨29, _⟩ => ⟨S128x1024, .f32⟩
  | .hbm, ⟨30, _⟩ => ⟨S128x1024, .bf16⟩
  | .hbm, ⟨31, _⟩ => ⟨S128x8x128, .bf16⟩
  | .hbm, ⟨32, _⟩ => ⟨S128x8x64, .bf16⟩
  | .hbm, ⟨33, _⟩ => ⟨S_, .i32⟩
  | .hbm, ⟨34, _⟩ => ⟨S_, .bf16⟩
  | .hbm, ⟨35, _⟩ => ⟨S128x8x128, .bf16⟩
  | .hbm, ⟨36, _⟩ => ⟨S128x1024, .bf16⟩
  | .hbm, ⟨37, _⟩ => ⟨S128x8x64, .bf16⟩
  | .hbm, ⟨38, _⟩ => ⟨S128x512, .bf16⟩
  | .hbm, ⟨39, _⟩ => ⟨S512x128, .bf16⟩
  | .hbm, ⟨40, _⟩ => ⟨S2048, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S2048x1, .f32⟩
  | .hbm, ⟨56, _⟩ => ⟨S1x16, .f32⟩
  | .hbm, ⟨57, _⟩ => ⟨S2048x16, .f32⟩
  | .hbm, ⟨58, _⟩ => ⟨S2048x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S16x2048, .f32⟩
  | .hbm, ⟨63, _⟩ => ⟨S16x2048, .f32⟩
  | .hbm, ⟨64, _⟩ => ⟨S32x2048, .f32⟩
  | .hbm, ⟨65, _⟩ => ⟨S_, .f32⟩
  | .hbm, ⟨66, _⟩ => ⟨S32x2048, .f32⟩
  | .hbm, ⟨67, _⟩ => ⟨S32x2048, .f32⟩
  | .hbm, ⟨68, _⟩ => ⟨S2048, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S2048x1, .f32⟩
  | .hbm, ⟨84, _⟩ => ⟨S1x16, .f32⟩
  | .hbm, ⟨85, _⟩ => ⟨S2048x16, .f32⟩
  | .hbm, ⟨86, _⟩ => ⟨S2048x16, .f32⟩
  | .hbm, ⟨87, _⟩ => ⟨S2048x16, .f32⟩
  | .hbm, ⟨88, _⟩ => ⟨S2048x16, .f32⟩
  | .hbm, ⟨89, _⟩ => ⟨S2048x16, .f32⟩
  | .hbm, ⟨90, _⟩ => ⟨S_, .f32⟩
  | .hbm, ⟨91, _⟩ => ⟨S2048x64, .f32⟩
  | .hbm, ⟨92, _⟩ => ⟨S_, .f32⟩
  | .hbm, ⟨93, _⟩ => ⟨S2048x32, .f32⟩
  | .hbm, ⟨94, _⟩ => ⟨S_, .f32⟩
  | .hbm, ⟨95, _⟩ => ⟨S2048x64, .f32⟩
  | .hbm, ⟨96, _⟩ => ⟨S2048x16, .f32⟩
  | .hbm, ⟨97, _⟩ => ⟨S_, .f32⟩
  | .hbm, ⟨98, _⟩ => ⟨S2048x48, .f32⟩
  | .hbm, ⟨99, _⟩ => ⟨S_, .f32⟩
  | .hbm, ⟨100, _⟩ => ⟨S2048x80, .f32⟩
  | .hbm, ⟨101, _⟩ => ⟨S_, .f32⟩
  | .hbm, ⟨102, _⟩ => ⟨S2048x32, .f32⟩
  | .hbm, ⟨103, _⟩ => ⟨S2048x384, .f32⟩
  | .hbm, ⟨104, _⟩ => ⟨S1024, .f32⟩
  | .hbm, ⟨105, _⟩ => ⟨S1x1024, .f32⟩
  | .hbm, ⟨106, _⟩ => ⟨S1024x2816, .f32⟩
  | .hbm, ⟨107, _⟩ => ⟨S1024x2816, .bf16⟩
  | .hbm, ⟨108, _⟩ => ⟨S1024x2816, .f32⟩
  | .hbm, ⟨109, _⟩ => ⟨S1024x2816, .bf16⟩
  | .hbm, ⟨110, _⟩ => ⟨S2816x1024, .f32⟩
  | .hbm, ⟨111, _⟩ => ⟨S2816x1024, .bf16⟩
  | .hbm, ⟨112, _⟩ => ⟨S1024, .f32⟩
  | .hbm, ⟨113, _⟩ => ⟨S1x1024, .f32⟩
  | .hbm, ⟨114, _⟩ => ⟨S256, .f32⟩
  | .hbm, ⟨115, _⟩ => ⟨S1x256, .f32⟩
  | .hbm, ⟨116, _⟩ => ⟨S128, .f32⟩
  | .hbm, ⟨117, _⟩ => ⟨S1x128, .f32⟩
  | .hbm, ⟨118, _⟩ => ⟨S65536x1024, .f32⟩
  | .hbm, ⟨119, _⟩ => ⟨S32x8x1024x256, .bf16⟩
  | .hbm, ⟨120, _⟩ => ⟨S65536x1024, .bf16⟩
  | .hbm, ⟨121, _⟩ => ⟨S32x8x640x256, .bf16⟩
  | .hbm, ⟨122, _⟩ => ⟨S32x16x512x128, .bf16⟩
  | .hbm, ⟨123, _⟩ => ⟨S65536x256, .bf16⟩
  | .hbm, ⟨124, _⟩ => ⟨S32x16x160x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1280, .bf16⟩
  | .local _ .vmem, ⟨10, _⟩ => ⟨S1x256, .f32⟩
  | .local _ .vmem, ⟨11, _⟩ => ⟨S1024x256, .bf16⟩
  | .local _ .vmem, ⟨12, _⟩ => ⟨S1x128, .f32⟩
  | .local _ .vmem, ⟨13, _⟩ => ⟨S128x1024, .bf16⟩
  | .local _ .vmem, ⟨14, _⟩ => ⟨S512x128, .bf16⟩
  | .local _ .vmem, ⟨15, _⟩ => ⟨S32x512, .f32⟩
  | .local _ .vmem, ⟨16, _⟩ => ⟨S32x512, .f32⟩
  | .local _ .vmem, ⟨17, _⟩ => ⟨S512x384, .f32⟩
  | .local _ .vmem, ⟨18, _⟩ => ⟨S512x384, .f32⟩
  | .local _ .vmem, ⟨19, _⟩ => ⟨S512x1024, .f32⟩
  | .local _ .vmem, ⟨20, _⟩ => ⟨S512x1024, .f32⟩
  | .local _ .vmem, ⟨21, _⟩ => ⟨S1x2x1024x256, .bf16⟩
  | .local _ .vmem, ⟨22, _⟩ => ⟨S1x2x1024x256, .bf16⟩
  | .local _ .vmem, ⟨23, _⟩ => ⟨S512x1024, .bf16⟩
  | .local _ .vmem, ⟨24, _⟩ => ⟨S512x1024, .bf16⟩
  | .local _ .vmem, ⟨25, _⟩ => ⟨S1x2x640x256, .bf16⟩
  | .local _ .vmem, ⟨26, _⟩ => ⟨S1x2x640x256, .bf16⟩
  | .local _ .vmem, ⟨27, _⟩ => ⟨S1x4x512x128, .bf16⟩
  | .local _ .vmem, ⟨28, _⟩ => ⟨S1x4x512x128, .bf16⟩
  | .local _ .vmem, ⟨29, _⟩ => ⟨S512x256, .bf16⟩
  | .local _ .vmem, ⟨30, _⟩ => ⟨S512x256, .bf16⟩
  | .local _ .vmem, ⟨31, _⟩ => ⟨S1x4x160x128, .bf16⟩
  | .local _ .vmem, ⟨32, _⟩ => ⟨S1x4x160x128, .bf16⟩
  | .local _ .vmem, ⟨33, _⟩ => ⟨S512x1024, .bf16⟩
  | .local _ .vmem, ⟨34, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86_0 : Ref sig .tc := ⟨.hbm, 118, rfl⟩
abbrev main_v86_1 : Ref sig .tc := ⟨.hbm, 119, rfl⟩
abbrev main_v86_2 : Ref sig .tc := ⟨.hbm, 120, rfl⟩
abbrev main_v86_3 : Ref sig .tc := ⟨.hbm, 121, rfl⟩
abbrev main_v86_4 : Ref sig .tc := ⟨.hbm, 122, rfl⟩
abbrev main_v86_5 : Ref sig .tc := ⟨.hbm, 123, rfl⟩
abbrev main_v86_6 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c128_i32 : BitVec 32 := 128#32
  let v3 : BitVec 1 := Scalar.cmpi .slt arg0 c128_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c128_i32_2 : BitVec 32 := 128#32
  let v6 : BitVec 1 := Scalar.cmpi .eq arg0 c128_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_15 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_16 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_19 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x640x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x4x160x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S32x2048x2816 : Shape := ⟨3, ![32, 2048, 2816]⟩
abbrev S65536x1024 : Shape := ⟨2, ![65536, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x1184, .f32⟩
  | .hbm, ⟨7, _⟩ => ⟨S1x256, .f32⟩
  | .hbm, ⟨8, _⟩ => ⟨S1x256x768, .f32⟩
  | .hbm, ⟨9, _⟩ => ⟨S1x128, .f32⟩
  | .hbm, ⟨10, _⟩ => ⟨S1x128x1024, .f32⟩
  | .hbm, ⟨11, _⟩ => ⟨S1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S1024x2816, .f32⟩
  | .hbm, ⟨29, _⟩ => ⟨S1024x2816, .f32⟩
  | .hbm, ⟨30, _⟩ => ⟨S2816x1024, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S_, .f32⟩
  | .hbm, ⟨35, _⟩ => ⟨S32x2048x2816, .f32⟩
  | .hbm, ⟨36, _⟩ => ⟨S32x2048x2816, .f32⟩
  | .hbm, ⟨37, _⟩ => ⟨S_, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S32x2048x2816, .f32⟩
  | .hbm, ⟨42, _⟩ => ⟨S32x2048x2816, .f32⟩
  | .hbm, ⟨43, _⟩ => ⟨S32x2048x1024, .f32⟩
  | .hbm, ⟨44, _⟩ => ⟨S_, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Proof.Finite.lean ====
/- What the precondition gives: every entry of the queries and the keys is a real. -/
module

public import proofs.«01_k».proof.Defs
public import proofs.«01_k».proof.Proof.Gen.Pre_finite
public import Idealize.ShloMosaic.Lib.Claim
public import Idealize.ShloMosaic.Lib.Pointwise

@[expose] public section

noncomputable section

namespace Cert.Proof

open Idealize.ShloMosaic Idealize.ShloMosaic.TcCoe Idealize.SL.Sem

/-- An extended real whose absolute value is below the infinity is a real. -/
theorem real_of_abs {x : EReal} (h : BitVec.ofBool (decide ((FloatOps.absf (F := Ideal) (φ := .f32) x : EReal) < Ideal.ofBits FTy.f32 2139095040#32)) = 1) :
    ∃ r : ℝ, x = (r : EReal) := by
  have e : Ideal.ofBits FTy.f32 2139095040#32 = ⊤ := by simp [Ideal.ofBits, Ideal.ieee]
  rw [e] at h
  induction x with
  | bot => exact absurd h (by simp [FloatOps.absf])
  | coe r => exact ⟨r, rfl⟩
  | top => exact absurd h (by simp [FloatOps.absf])

variable (A0 : FVec Ideal Cert.Pre_finite.S32x2048x8x64 .f32) (A1 : FVec Ideal Cert.Pre_finite.S32x2048x8x32 .f32)
    (A2 : FVec Ideal Cert.Pre_finite.S32x2048x8x64 .f32) (A3 : FVec Ideal Cert.Pre_finite.S32x2048x32 .f32) (A4 : FVec Ideal Cert.Pre_finite.S32x2048x8x64 .f32)

theorem finite_0 (h0 : (Cert.Pre_finite.fn (F := Ideal) A0 A1 A2 A3 A4).1 = fun _ => 1) (j : Cert.Pre_finite.S32x2048x8x64.Idx) : ∃ r : ℝ, A0 j = (r : EReal) := by
  have h := congrFun h0 j
  simp only [Cert.Pre_finite.fn] at h
  pointwise at h
  exact real_of_abs h

theorem finite_1 (h0 : (Cert.Pre_finite.fn (F := Ideal) A0 A1 A2 A3 A4).2.1 = fun _ => 1) (j : Cert.Pre_finite.S32x2048x8x32.Idx) : ∃ r : ℝ, A1 j = (r : EReal) := by
  have h := congrFun h0 j
  simp only [Cert.Pre_finite.fn] at h
  pointwise at h
  exact real_of_abs h

theorem finite_2 (h0 : (Cert.Pre_finite.fn (F := Ideal) A0 A1 A2 A3 A4).2.2.1 = fun _ => 1) (j : Cert.Pre_finite.S32x2048x8x64.Idx) : ∃ r : ℝ, A2 j = (r : EReal) := by
  have h := congrFun h0 j
  simp only [Cert.Pre_finite.fn] at h
  pointwise at h
  exact real_of_abs h

theorem finite_3 (h0 : (Cert.Pre_finite.fn (F := Ideal) A0 A1 A2 A3 A4).2.2.2 = fun _ => 1) (j : Cert.Pre_finite.S32x2048x32.Idx) : ∃ r : ℝ, A3 j = (r : EReal) := by
  have h := congrFun h0 j
  simp only [Cert.Pre_finite.fn] at h
  pointwise at h
  exact real_of_abs h

end Cert.Proof
-- ==== Proof.OnlineSoftmax.lean ====
/- The online softmax of one query, as identities of extended reals: a running maximum is replaced by a larger
   one, and the sums kept so far are rescaled. The maximum need not be the maximum of anything: any real will do. -/
module

public import Idealize.ShloMosaic.Lib.Pointwise

@[expose] public section

noncomputable section

namespace Cert.Proof

open Idealize.ShloMosaic Finset

/-- A power of two whose exponent is below `⊤` is a real that is not negative. -/
theorem exp2_real {t : EReal} (h : t ≠ ⊤) : ∃ r : ℝ, 0 ≤ r ∧ Ideal.exp2 t = (r : EReal) := by
  induction t with
  | bot => exact ⟨0, le_rfl, by simp⟩
  | coe t => exact ⟨Real.rpow 2 t, Real.rpow_nonneg (by norm_num) t, by simp⟩
  | top => exact absurd rfl h

/-- A real that is not negative multiplies a sum of extended reals term by term. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [sum_insert ha, sum_insert ha,
      EReal.left_distrib_of_nonneg_of_ne_top (EReal.coe_nonneg.2 hc) (EReal.coe_ne_top c), ih]

/-- A score rescaled from one real maximum to another. -/
theorem exp2_rescale (m m' : ℝ) {t : EReal} (h : t ≠ ⊤) :
    Ideal.exp2 ((m : EReal) - m') * Ideal.exp2 (t - m) = Ideal.exp2 (t - m') := by
  induction t with
  | bot => simp
  | top => exact absurd rfl h
  | coe t =>
    simp only [← EReal.coe_sub, Ideal.exp2_coe, ← EReal.coe_mul]
    congr 1
    show (2 : ℝ) ^ (m - m') * (2 : ℝ) ^ (t - m) = (2 : ℝ) ^ (t - m')
    rw [← Real.rpow_add (by norm_num)]
    congr 1; ring

/-- One tile more: from the sums over `n` tiles at the maximum `m` to those over `n + 1` tiles at `m'`. -/
theorem col_step {n : ℕ} {T V : ℕ → Fin 256 → EReal} {m m' acc : EReal} (hT : ∀ j k, T j k ≠ ⊤) (hm : m ≠ ⊤)
    (hm0 : 0 < n → m ≠ ⊥) (hm' : m' ≠ ⊤) (hm'0 : m' ≠ ⊥)
    (hacc : acc = ∑ j ∈ range n, ∑ k, Ideal.exp2 (T j k - m) * V j k) :
    Ideal.exp2 (m - m') * acc + ∑ k, V n k * Ideal.exp2 (T n k - m')
      = ∑ j ∈ range (n + 1), ∑ k, Ideal.exp2 (T j k - m') * V j k := by
  lift m' to ℝ using ⟨hm', hm'0⟩
  rw [sum_range_succ]
  congr 1
  · rcases Nat.eq_zero_or_pos n with rfl | hn
    · simp [hacc]
    · lift m to ℝ using ⟨hm, hm0 hn⟩
      obtain ⟨r, hr, he⟩ := exp2_real (t := (m : EReal) - m') (by rw [← EReal.coe_sub]; exact EReal.coe_ne_top _)
      rw [hacc, he, coe_mul_sum r hr]
      refine sum_congr rfl fun j _ => ?_
      rw [coe_mul_sum r hr]
      refine sum_congr rfl fun k _ => ?_
      rw [← mul_assoc, ← he, exp2_rescale m m' (hT j k)]
  · exact sum_congr rfl fun k _ => mul_comm _ _

end Cert.Proof
-- ==== Proof.MlaStep.lean ====
/- One step of the latent attention's kernel on a pair of tiles, over any vectors: what the tiles of keys, queries and
   values hold, what a score tile is, and how a step of the online softmax extends the sums kept for each query. -/
module

public import proofs.«01_k».proof.Proof.Gen.KernelIdeal.Skeleton
public import proofs.«01_k».proof.Proof.OnlineSoftmax
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof

open Idealize.ShloMosaic Idealize.ShloMosaic.TcCoe Idealize.SL.Sem
open Cert.KernelIdeal Cert.KernelIdeal.Gen
open Finset (range)

/-- A block of queries: per tile of 256, the features of two heads by the queries. -/
abbrev Queries := Vec Ideal S1x8x256x256 .bf16
/-- A block of keys: the keys by the features of two heads. -/
abbrev Keys := Vec Ideal S2048x256 .bf16
/-- A block of values: per tile of 256, the rows of two heads (64 features, then ones) by the keys. -/
abbrev Values := Vec Ideal S1x8x160x256 .bf16

variable (x0 : Queries) (x1 : Keys) (x2 : Values)

/-- Feature `d` of head `h` of key `k` of tile `j`. -/
def key (h j : ℕ) (k : Fin 256) (d : Fin 128) : EReal :=
  x1 (ix2 (Fin.ofNat 2048 (256 * j + k)) (Fin.ofNat 256 (128 * h + d)))
/-- Feature `d` of head `h` of query `q` of tile `i`. -/
def query (h i : ℕ) (d : Fin 128) (q : Fin 256) : EReal :=
  x0 (ix4 0 (Fin.ofNat 8 i) (Fin.ofNat 256 (128 * h + d)) q)
/-- Row `r` of head `h` of the values of tile `j`, at key `k`. -/
def value (h j : ℕ) (r : Fin 80) (k : Fin 256) : EReal :=
  x2 (ix4 0 (Fin.ofNat 8 j) (Fin.ofNat 160 (80 * h + r)) k)
/-- The score of key `k` of tile `j` for query `q` of tile `i`. -/
def score (h i j : ℕ) (k q : Fin 256) : EReal := ∑ d : Fin 128, key x1 h j k d * query x0 h i d q
/-- The score, masked on the tile of the diagonal where the key comes after the query. -/
def masked (h i j : ℕ) (k q : Fin 256) : EReal := if j = i ∧ q < k then ⊥ else score x0 x1 h i j k q

def IsKey (h j : ℕ) (v : FVec Ideal S256x128 .bf16) : Prop := ∀ k d, v (ix2 k d) = key x1 h j k d
def IsQuery (h i : ℕ) (v : FVec Ideal S128x256 .bf16) : Prop := ∀ d q, v (ix2 d q) = query x0 h i d q
def IsValue (h j : ℕ) (v : FVec Ideal S80x256 .bf16) : Prop := ∀ r k, v (ix2 r k) = value x2 h j r k
def IsTile (h i j : ℕ) (s : FVec Ideal S256x256 .f32) : Prop := ∀ k q, s (ix2 k q) = masked x0 x1 h i j k q
/-- The weights of a tile at the running maximum `m`. -/
def IsWeight (h i j : ℕ) (m : FVec Ideal S1x256 .f32) (p : FVec Ideal S256x256 .bf16) : Prop :=
  ∀ k q, p (ix2 k q) = Ideal.exp2 (masked x0 x1 h i j k q - m (ix2 0 q))

/-- After `n` tiles: the running maximum is below `⊤`, a real once a tile was read, and the accumulator holds the
    weighted sums of the value rows at that maximum. -/
def Inv (h i n : ℕ) (m : FVec Ideal S1x256 .f32) (acc : FVec Ideal S80x256 .f32) : Prop :=
  ∀ q, m (ix2 0 q) ≠ ⊤ ∧ (0 < n → m (ix2 0 q) ≠ ⊥)
    ∧ ∀ r, acc (ix2 r q) = ∑ j ∈ range n, ∑ k, Ideal.exp2 (masked x0 x1 h i j k q - m (ix2 0 q)) * value x2 h j r k

/-- The queries and the keys are real. -/
def Real2 : Prop := (∀ j, ∃ r : ℝ, x0 j = (r : EReal)) ∧ ∀ j, ∃ r : ℝ, x1 j = (r : EReal)

variable {x0 x1 x2}

/-- The word of minus infinity reads as the least extended real. -/
theorem ofBits_neg_inf : Ideal.ofBits .f32 0xFF800000#32 = ⊥ := by
  simp [Ideal.ofBits, Ideal.ieee]

theorem score_real (hx : Real2 x0 x1) (h i j : ℕ) (k q : Fin 256) : ∃ r : ℝ, score x0 x1 h i j k q = (r : EReal) := by
  choose f hf using hx.1
  choose g hg using hx.2
  refine ⟨∑ d : Fin 128, g (ix2 (Fin.ofNat 2048 (256 * j + k)) (Fin.ofNat 256 (128 * h + d)))
    * f (ix4 0 (Fin.ofNat 8 i) (Fin.ofNat 256 (128 * h + d)) q), ?_⟩
  unfold score key query
  simp only [hf, hg]
  push_cast
  rfl

theorem masked_ne_top (hx : Real2 x0 x1) (h i j : ℕ) (k q : Fin 256) : masked x0 x1 h i j k q ≠ ⊤ := by
  unfold masked
  split
  · exact bot_ne_top
  · obtain ⟨r, hr⟩ := score_real hx h i j k q
    rw [hr]; exact EReal.coe_ne_top r

theorem masked_zero_ne_bot (hx : Real2 x0 x1) (h i j : ℕ) (q : Fin 256) : masked x0 x1 h i j 0 q ≠ ⊥ := by
  unfold masked
  rw [if_neg (fun hc => absurd hc.2 (by simp))]
  obtain ⟨r, hr⟩ := score_real hx h i j 0 q
  rw [hr]; exact EReal.coe_ne_bot r

/-- Before the first tile: no maximum, no sum. -/
theorem inv_zero (h i : ℕ) : Inv x0 x1 x2 h i 0 (k0_pay4 (F := Ideal)) (k0_pay5 (F := Ideal)) := by
  intro q
  refine ⟨?_, fun h0 => absurd h0 (lt_irrefl 0), fun r => ?_⟩
  · pointwise [k0_pay4]
    exact bot_ne_top
  · pointwise [k0_pay5]
    simp

theorem tile_raw {h i j : ℕ} {kv : FVec Ideal S256x128 .bf16} {qv : FVec Ideal S128x256 .bf16} (hij : j ≠ i)
    (hk : IsKey x1 h j kv) (hq : IsQuery x0 h i qv) :
    IsTile x0 x1 h i j (matmul dot_S256x128_S128x256_S256x256_1_0_0_1_n_n none kv qv (constant S256x256 .f32 0x00000000#32)) := by
  intro k q
  pointwise
  unfold masked score
  rw [if_neg (fun hc => hij hc.1)]
  simp only [hk k, hq _ q, zero_add]

theorem tile_diag {h i : ℕ} {kv : FVec Ideal S256x128 .bf16} {qv : FVec Ideal S128x256 .bf16}
    (hk : IsKey x1 h i kv) (hq : IsQuery x0 h i qv) :
    IsTile x0 x1 h i i (select (k0_pay3) (matmul dot_S256x128_S128x256_S256x256_1_0_0_1_n_n none kv qv
      (constant S256x256 .f32 0x00000000#32)) (broadcast S256x256 (Named.named (F := Ideal) κ "mask" 0xF149F2CA#32))) := by
  intro k q
  pointwise [k0_pay3]
  unfold masked score
  simp only [hk k, hq _ q, zero_add, true_and]
  have hm : (Named.named κ "mask" 0xF149F2CA#32 : Ideal .f32) = (⊥ : EReal) := rfl
  have hk' := k.isLt
  have hq' := q.isLt
  have hc : IntOp.cmpi CmpIPredicate.sle (BitVec.ofNat 32 (k : ℕ)) (BitVec.ofNat 32 (q : ℕ))
      = BitVec.ofBool (decide ((k : ℕ) ≤ (q : ℕ))) := by
    simp (disch := omega) only [hlo_ix]
  rw [hc, hm, WordCmp.select_decide]
  by_cases h : q < k
  · rw [if_pos h, if_neg (by have : (q : ℕ) < k := h; omega)]
  · rw [if_neg h, if_pos (by have : ¬ (q : ℕ) < k := h; omega)]

/-- The maximum raised by the scores of a tile. -/
def IsMax (h i j : ℕ) (m m' : FVec Ideal S1x256 .f32) : Prop :=
  ∀ q, m' (ix2 0 q) = max (m (ix2 0 q)) (Finset.univ.fold max ⊥ fun k => masked x0 x1 h i j k q)

theorem isMax_of {h i j : ℕ} {m : FVec Ideal S1x256 .f32} {s : FVec Ideal S256x256 .f32} (hs : IsTile x0 x1 h i j s) :
    IsMax (x0 := x0) (x1 := x1) h i j m (maximumf m (shapeCast S1x256 (multiReduction .maximumf [0] S256 s
      0xFF800000#32 reduces_S256x256_S256 (.inl rfl) rfl) shapeCasts_S256_S1x256)) := by
  intro q
  pointwise
  simp only [hs _ q, ofBits_neg_inf]

/-- ONE STEP: the tile's scores raise the maximum, the sums are rescaled and the tile's weighted values added. -/
theorem inv_step (hx : Real2 x0 x1) {h i n : ℕ} {m m' : FVec Ideal S1x256 .f32} {acc : FVec Ideal S80x256 .f32}
    {p : FVec Ideal S256x256 .bf16} {v : FVec Ideal S80x256 .bf16}
    (hI : Inv x0 x1 x2 h i n m acc) (hmax : IsMax (x0 := x0) (x1 := x1) h i n m m')
    (hp : IsWeight x0 x1 h i n m' p) (hv : IsValue x2 h n v) :
    Inv x0 x1 x2 h i (n + 1) m' (addf (mulf (broadcastTo S80x256 (exp2 (subf m m')) broadcasts_S1x256_S80x256) acc)
      (matmul dot_S80x256_S256x256_S80x256_1_0_0_1_n_n none v p (constant S80x256 .f32 0x00000000#32))) := by
  have htop : ∀ q, m' (ix2 0 q) ≠ ⊤ := by
    intro q
    rw [hmax q, ← lt_top_iff_ne_top, max_lt_iff, Finset.fold_max_lt]
    exact ⟨lt_top_iff_ne_top.2 (hI q).1, bot_lt_top, fun k _ => lt_top_iff_ne_top.2 (masked_ne_top hx h i n k q)⟩
  have hbot : ∀ q, m' (ix2 0 q) ≠ ⊥ := by
    intro q
    rw [hmax q, ← bot_lt_iff_ne_bot, lt_max_iff, Finset.lt_fold_max]
    exact .inr (.inr ⟨0, Finset.mem_univ _, bot_lt_iff_ne_bot.2 (masked_zero_ne_bot hx h i n q)⟩)
  intro q
  refine ⟨htop q, fun _ => hbot q, fun r => ?_⟩
  pointwise
  simp only [hv r, hp _ q, zero_add]
  exact col_step (T := fun j k => masked x0 x1 h i j k q) (V := fun j k => value x2 h j r k)
    (fun j k => masked_ne_top hx h i j k q) (hI q).1 (hI q).2.1 (htop q) (hbot q) ((hI q).2.2 r)

theorem weight_of {h i j : ℕ} {m : FVec Ideal S1x256 .f32} {s : FVec Ideal S256x256 .f32} (hs : IsTile x0 x1 h i j s) :
    IsWeight x0 x1 h i j m (truncf .bf16 (exp2 (subf s (broadcastTo S256x256 m broadcasts_S1x256_S256x256))) bitsLt_bf16_f32) := by
  intro k q
  pointwise
  rw [hs k q]
  rfl

/-! ## The tiles as the kernel loads them -/

theorem key_load {sg : RefSig} {κ' : Kind} {sp : Space} (a : Memref sg κ' sp S2048x256 .bf16) (ha : a.IsWhole) (h j : ℕ)
    (inb : ∀ x, (![256 * j, 128 * h] : Fin 2 → ℕ) x + S256x128.size x ≤ S2048x256.size x) :
    IsKey x1 h j (shapeCast S256x128 (View.readAt (Elt Ideal) a.view
      (Rect.unit (s := S2048x256) ![256 * j, 128 * h] S256x128.size inb).toLoadRect (ha.unread x1)) shapeCasts_S256x128_S256x128) := by
  intro k d
  have h0 : 256 * j + 256 ≤ 2048 := inb 0
  have h1 : 128 * h + 128 ≤ 256 := inb 1
  rw [View.readAt_eq_ld, ha.read_unread]
  pointwise
  unfold key
  refine congrArg x1 ((ix2_inj ..).2 ⟨Fin.ext ?_, Fin.ext ?_⟩)
  · exact (Nat.mod_eq_of_lt (by omega)).symm
  · exact (Nat.mod_eq_of_lt (by omega)).symm

theorem query_load {sg : RefSig} {κ' : Kind} {sp : Space} (a : Memref sg κ' sp S1x8x256x256 .bf16) (ha : a.IsWhole) (h i : ℕ)
    (inb : ∀ x, (![0, i, 128 * h, 0] : Fin 4 → ℕ) x + S1x1x128x256.size x ≤ S1x8x256x256.size x) :
    IsQuery x0 h i (shapeCast (s := S1x1x128x256) S128x256 (View.readAt (Elt Ideal) a.view
      (Rect.unit (s := S1x8x256x256) ![0, i, 128 * h, 0] S1x1x128x256.size inb).toLoadRect (ha.unread x0))
      shapeCasts_S1x1x128x256_S128x256) := by
  intro d q
  have h1 : i + 1 ≤ 8 := inb 1
  have h2 : 128 * h + 128 ≤ 256 := inb 2
  rw [View.readAt_eq_ld, ha.read_unread]
  pointwise
  unfold query
  refine congrArg x0 ((ix4_inj ..).2 ⟨rfl, Fin.ext ?_, Fin.ext ?_, Fin.ext ?_⟩)
  · exact (Nat.mod_eq_of_lt (by omega)).symm
  · exact (Nat.mod_eq_of_lt (by omega)).symm
  · simp

theorem value_load {sg : RefSig} {κ' : Kind} {sp : Space} (a : Memref sg κ' sp S1x8x160x256 .bf16) (ha : a.IsWhole) (h j : ℕ)
    (inb : ∀ x, (![0, j, 80 * h, 0] : Fin 4 → ℕ) x + S1x1x80x256.size x ≤ S1x8x160x256.size x) :
    IsValue x2 h j (shapeCast (s := S1x1x80x256) S80x256 (View.readAt (Elt Ideal) a.view
      (Rect.unit (s := S1x8x160x256) ![0, j, 80 * h, 0] S1x1x80x256.size inb).toLoadRect (ha.unread x2))
      shapeCasts_S1x1x80x256_S80x256) := by
  intro r k
  have h1 : j + 1 ≤ 8 := inb 1
  have h2 : 80 * h + 80 ≤ 160 := inb 2
  rw [View.readAt_eq_ld, ha.read_unread]
  pointwise
  unfold value
  refine congrArg x2 ((ix4_inj ..).2 ⟨rfl, Fin.ext ?_, Fin.ext ?_, Fin.ext ?_⟩)
  · exact (Nat.mod_eq_of_lt (by omega)).symm
  · exact (Nat.mod_eq_of_lt (by omega)).symm
  · simp

/-- A tile stored with a unit axis in front and read back without it. -/
theorem drop_unit {α : Type} (w : S256x256.Idx → α) :
    shapeCast S256x256 (shapeCast S1x256x256 w shapeCasts_S256x256_S1x256x256) shapeCasts_S1x256x256_S256x256 = w := by
  funext j
  idx_vars j
  pointwise

/-- A load of a head's slot reads what the last store into that slot wrote. -/
theorem load_head {e : EltTy} {sg : RefSig} {κ' : Kind} {sp : Space} {v : View sg κ' sp S2x256x256 e} {b : ℕ}
    {inb inb' : ∀ x, (![b, 0, 0] : Fin 3 → ℕ) x + S1x256x256.size x ≤ S2x256x256.size x} {w : S256x256.Idx → Elt Ideal e}
    {L : List (View.Piece (Elt Ideal) S2x256x256 e)} {P : (S256x256.Idx → Elt Ideal e) → Prop} (h : P w) :
    P (shapeCast (s := S1x256x256) S256x256 (v.readCov (⟨Rect.unit (s := S2x256x256) ![b, 0, 0] S1x256x256.size inb,
        shapeCast S1x256x256 w shapeCasts_S256x256_S1x256x256⟩ :: L)
      (Rect.unit (s := S2x256x256) ![b, 0, 0] S1x256x256.size inb').toLoadRect) shapeCasts_S1x256x256_S256x256) := by
  rw [View.readCov_cons_toLoadRect, drop_unit]
  exact h

/-- A load of the other head's slot does not see the last store. -/
theorem load_skip {e : EltTy} {sg : RefSig} {κ' : Kind} {sp : Space} {v : View sg κ' sp S2x256x256 e} {b b' : ℕ}
    {inb : ∀ x, (![b, 0, 0] : Fin 3 → ℕ) x + S1x256x256.size x ≤ S2x256x256.size x}
    {inb' : ∀ x, (![b', 0, 0] : Fin 3 → ℕ) x + S1x256x256.size x ≤ S2x256x256.size x} {w : S1x256x256.Idx → Elt Ideal e}
    {L : List (View.Piece (Elt Ideal) S2x256x256 e)} {P : (S256x256.Idx → Elt Ideal e) → Prop} (hb : b ≠ b')
    (h : P (shapeCast (s := S1x256x256) S256x256 (v.readCov L
      (Rect.unit (s := S2x256x256) ![b', 0, 0] S1x256x256.size inb').toLoadRect) shapeCasts_S1x256x256_S256x256)) :
    P (shapeCast (s := S1x256x256) S256x256 (v.readCov (⟨Rect.unit (s := S2x256x256) ![b, 0, 0] S1x256x256.size inb, w⟩ :: L)
      (Rect.unit (s := S2x256x256) ![b', 0, 0] S1x256x256.size inb').toLoadRect) shapeCasts_S1x256x256_S256x256) := by
  have hd : LoadRect.disj (Rect.unit (s := S2x256x256) ![b, 0, 0] S1x256x256.size inb)
      (Rect.unit (s := S2x256x256) ![b', 0, 0] S1x256x256.size inb').toLoadRect = true := by
    refine decide_eq_true ⟨0, .inr (.inr ?_)⟩
    show b + 1 * 0 < b' ∨ b' + 1 * 0 < b
    omega
  rw [View.readCov_skip v _ w L _ hd]
  exact h

theorem tile_head {sg : RefSig} {κ' : Kind} {sp : Space} {v : View sg κ' sp S2x256x256 .f32} {b : ℕ}
    {inb inb' : ∀ x, (![b, 0, 0] : Fin 3 → ℕ) x + S1x256x256.size x ≤ S2x256x256.size x} {w : S256x256.Idx → Elt Ideal .f32}
    {L : List (View.Piece (Elt Ideal) S2x256x256 .f32)} {h i j : ℕ}
    (hw : IsTile x0 x1 h i j w) : IsTile x0 x1 h i j (shapeCast (s := S1x256x256) S256x256 (v.readCov (⟨Rect.unit (s := S2x256x256) ![b, 0, 0] S1x256x256.size inb,
        shapeCast S1x256x256 w shapeCasts_S256x256_S1x256x256⟩ :: L)
      (Rect.unit (s := S2x256x256) ![b, 0, 0] S1x256x256.size inb').toLoadRect) shapeCasts_S1x256x256_S256x256) :=
  load_head (e := .f32) (P := IsTile x0 x1 h i j) hw

theorem tile_skip {sg : RefSig} {κ' : Kind} {sp : Space} {v : View sg κ' sp S2x256x256 .f32} {b b' : ℕ}
    {inb : ∀ x, (![b, 0, 0] : Fin 3 → ℕ) x + S1x256x256.size x ≤ S2x256x256.size x}
    {inb' : ∀ x, (![b', 0, 0] : Fin 3 → ℕ) x + S1x256x256.size x ≤ S2x256x256.size x} {w : S1x256x256.Idx → Elt Ideal .f32}
    {L : List (View.Piece (Elt Ideal) S2x256x256 .f32)} {h i j : ℕ}
    (hb : b ≠ b') (hw : IsTile x0 x1 h i j (shapeCast (s := S1x256x256) S256x256 (v.readCov L
      (Rect.unit (s := S2x256x256) ![b', 0, 0] S1x256x256.size inb').toLoadRect) shapeCasts_S1x256x256_S256x256)) :
    IsTile x0 x1 h i j (shapeCast (s := S1x256x256) S256x256 (v.readCov (⟨Rect.unit (s := S2x256x256) ![b, 0, 0] S1x256x256.size inb, w⟩ :: L)
      (Rect.unit (s := S2x256x256) ![b', 0, 0] S1x256x256.size inb').toLoadRect) shapeCasts_S1x256x256_S256x256) :=
  load_skip (e := .f32) (P := IsTile x0 x1 h i j) hb hw

theorem weight_head {sg : RefSig} {κ' : Kind} {sp : Space} {v : View sg κ' sp S2x256x256 .bf16} {b : ℕ}
    {inb inb' : ∀ x, (![b, 0, 0] : Fin 3 → ℕ) x + S1x256x256.size x ≤ S2x256x256.size x} {w : S256x256.Idx → Elt Ideal .bf16}
    {L : List (View.Piece (Elt Ideal) S2x256x256 .bf16)} {h i j : ℕ} {m : FVec Ideal S1x256 .f32}
    (hw : IsWeight x0 x1 h i j m w) : IsWeight x0 x1 h i j m (shapeCast (s := S1x256x256) S256x256 (v.readCov (⟨Rect.unit (s := S2x256x256) ![b, 0, 0] S1x256x256.size inb,
        shapeCast S1x256x256 w shapeCasts_S256x256_S1x256x256⟩ :: L)
      (Rect.unit (s := S2x256x256) ![b, 0, 0] S1x256x256.size inb').toLoadRect) shapeCasts_S1x256x256_S256x256) :=
  load_head (e := .bf16) (P := IsWeight x0 x1 h i j m) hw

theorem weight_skip {sg : RefSig} {κ' : Kind} {sp : Space} {v : View sg κ' sp S2x256x256 .bf16} {b b' : ℕ}
    {inb : ∀ x, (![b, 0, 0] : Fin 3 → ℕ) x + S1x256x256.size x ≤ S2x256x256.size x}
    {inb' : ∀ x, (![b', 0, 0] : Fin 3 → ℕ) x + S1x256x256.size x ≤ S2x256x256.size x} {w : S1x256x256.Idx → Elt Ideal .bf16}
    {L : List (View.Piece (Elt Ideal) S2x256x256 .bf16)} {h i j : ℕ} {m : FVec Ideal S1x256 .f32}
    (hb : b ≠ b') (hw : IsWeight x0 x1 h i j m (shapeCast (s := S1x256x256) S256x256 (v.readCov L
      (Rect.unit (s := S2x256x256) ![b', 0, 0] S1x256x256.size inb').toLoadRect) shapeCasts_S1x256x256_S256x256)) :
    IsWeight x0 x1 h i j m (shapeCast (s := S1x256x256) S256x256 (v.readCov (⟨Rect.unit (s := S2x256x256) ![b, 0, 0] S1x256x256.size inb, w⟩ :: L)
      (Rect.unit (s := S2x256x256) ![b', 0, 0] S1x256x256.size inb').toLoadRect) shapeCasts_S1x256x256_S256x256) :=
  load_skip (e := .bf16) (P := IsWeight x0 x1 h i j m) hb hw

/-! ## What a tile of queries gives -/

variable (x0 x1 x2) in
/-- Feature `d` of head `h` for query `q` of tile `i`: the weighted mean of the values over the tiles up to `i`. -/
def outAt (h i : ℕ) (d : Fin 80) (q : Fin 256) : EReal :=
  Ideal.div (∑ j ∈ range (i + 1), ∑ k, Ideal.exp2 (masked x0 x1 h i j k q) * value x2 h j d k)
    (∑ j ∈ range (i + 1), ∑ k, Ideal.exp2 (masked x0 x1 h i j k q))

variable (x0 x1 x2) in
/-- The whole block of results. -/
def outBlock (y : S1x8x128x256.Idx) : EReal :=
  outAt x0 x1 x2 ((y 2 : ℕ) / 64) (y 1 : ℕ) (Fin.ofNat 80 ((y 2 : ℕ) % 64)) (y 3)

/-- The values end with a row of ones, in each head and tile. -/
def Ones (x2 : Values) : Prop := ∀ h j k, value x2 h j 64 k = 1

/-- The quotient of two sums does not depend on the maximum they are kept at. -/
theorem mean_shift {ι : Type*} (s : Finset ι) (T V : ι → EReal) (hT : ∀ j, T j ≠ ⊤) (a : ι) (ha : a ∈ s) (hb : T a ≠ ⊥) (m : EReal)
    (h1 : m ≠ ⊤) (h2 : m ≠ ⊥) :
    Ideal.div (∑ j ∈ s, Ideal.exp2 (T j - m) * V j) (∑ j ∈ s, Ideal.exp2 (T j - m))
      = Ideal.div (∑ j ∈ s, Ideal.exp2 (T j) * V j) (∑ j ∈ s, Ideal.exp2 (T j)) := by
  lift m to ℝ using ⟨h1, h2⟩
  choose e he0 he using fun j => exp2_real (hT j)
  have hc : ∀ j, Ideal.exp2 (T j - m) = ((2 : ℝ) ^ (-m) : ℝ) * Ideal.exp2 (T j) := fun j => by
    have := exp2_rescale 0 m (hT j)
    simp only [EReal.coe_zero, sub_zero] at this
    rw [← this, zero_sub, ← EReal.coe_neg, Ideal.exp2_coe]
    rfl
  have hpos : (0 : ℝ) < (2 : ℝ) ^ (-m) := Real.rpow_pos_of_pos (by norm_num) _
  have hepos : 0 < e a := by
    have h := he a
    have hta := hT a
    generalize T a = t at h hb hta
    lift t to ℝ using ⟨hta, hb⟩
    rw [Ideal.exp2_coe, EReal.coe_eq_coe_iff] at h
    rw [← h]
    exact Real.rpow_pos_of_pos (by norm_num) _
  have hs : 0 < ∑ j ∈ s, e j := Finset.sum_pos' (fun j _ => he0 j) ⟨a, ha, hepos⟩
  have hsum : ∑ j ∈ s, Ideal.exp2 (T j) = ((∑ j ∈ s, e j : ℝ) : EReal) := by
    simp only [he]
    exact (map_sum (⟨⟨((↑) : ℝ → EReal), EReal.coe_zero⟩, EReal.coe_add⟩ : ℝ →+ EReal) e s).symm
  simp only [hc, mul_assoc]
  rw [← coe_mul_sum _ hpos.le, ← coe_mul_sum _ hpos.le, hsum, ← EReal.coe_mul, Ideal.div_coe (mul_pos hpos hs).ne',
    Ideal.div_coe hs.ne', mul_comm (((2 : ℝ) ^ (-m) : ℝ) : EReal) (∑ j ∈ s, _), mul_assoc, ← EReal.coe_mul]
  congr 2
  have := hpos.ne'
  have := hs.ne'
  field_simp

/-- A PIECE OF THE BLOCK: the accumulator's features divided by its row of sums. -/
theorem piece_of (hx : Real2 x0 x1) (hv : Ones x2) {h i : ℕ} {acc : FVec Ideal S80x256 .f32}
    {inb : ∀ a, (![0, i, 64 * h, 0] : Fin 4 → ℕ) a + S1x1x64x256.size a ≤ S1x8x128x256.size a}
    (hI : ∃ m, Inv x0 x1 x2 h i (i + 1) m acc) (x : S1x1x64x256.Idx) :
    shapeCast S1x1x64x256 (divf (extractStridedSlice S64x256 ![0, 0] acc slices_S80x256_o0_0_S64x256)
        (broadcastTo S64x256 (extractStridedSlice S1x256 ![64, 0] acc slices_S80x256_o64_0_S1x256) broadcasts_S1x256_S64x256))
      shapeCasts_S64x256_S1x1x64x256 x
      = outBlock x0 x1 x2 ((Rect.unit (s := S1x8x128x256) ![0, i, 64 * h, 0] S1x1x64x256.size inb).emb x) := by
  idx_vars x
  pointwise
  obtain ⟨m, hm⟩ := hI
  have hi : i + 1 ≤ 8 := inb 1
  have hh : 64 * h + 64 ≤ 128 := inb 2
  have e1 : (((Rect.unit (s := S1x8x128x256) ![0, i, 64 * h, 0] S1x1x64x256.size inb).emb (ix4 x0 x1 x2 x3)) 1 : ℕ) = i := by
    rw [Rect.emb_apply]
    show i + 1 * (x1 : ℕ) = i
    omega
  have e2 : (((Rect.unit (s := S1x8x128x256) ![0, i, 64 * h, 0] S1x1x64x256.size inb).emb (ix4 x0 x1 x2 x3)) 2 : ℕ) = 64 * h + x2 := by
    rw [Rect.emb_apply]
    show 64 * h + 1 * (x2 : ℕ) = _
    omega
  have e3 : ((Rect.unit (s := S1x8x128x256) ![0, i, 64 * h, 0] S1x1x64x256.size inb).emb (ix4 x0 x1 x2 x3)) 3 = x3 := by
    apply Fin.ext
    rw [Rect.emb_apply]
    show 0 + 1 * (x3 : ℕ) = _
    omega
  have hx2 := x2.isLt
  unfold outBlock outAt
  rw [e1, e2, e3]
  have hd : (64 * h + (x2 : ℕ)) / 64 = h := by omega
  have hr : (Fin.ofNat 80 ((64 * h + (x2 : ℕ)) % 64)) = (⟨x2, by omega⟩ : Fin 80) := by
    apply Fin.ext
    show (64 * h + (x2 : ℕ)) % 64 % 80 = x2
    omega
  rw [hd, hr, (hm x3).2.2, (hm x3).2.2]
  simp only [hv h, mul_one]
  simp only [← Finset.sum_product']
  exact mean_shift (range (i + 1) ×ˢ Finset.univ) (fun p => masked _ _ h i p.1 p.2 x3) (fun p => value _ h p.1 ⟨x2, by omega⟩ p.2)
    (fun p => masked_ne_top hx h i p.1 p.2 x3) (0, 0) (by simp) (masked_zero_ne_bot hx h i 0 x3) _ (hm x3).1 ((hm x3).2.1 (Nat.succ_pos i))

end Cert.Proof
-- ==== Proof.MlaArgs.lean ====
/- The blocks the latent attention's kernel is given, entry by entry, in terms of the queries, keys and values. -/
module

public import proofs.«01_k».proof.Proof.Gen.KernelIdeal.Frame
public import proofs.«01_k».proof.Proof.MlaStep
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

/-- The blocks of a grid point: the batch row, and the pair of heads. -/
theorem idx_val : ∀ t : Fin cfg0.N, (win0_0.index t 0 = (t : ℕ) / 4 ∧ win0_0.index t 1 = 0 ∧ win0_0.index t 2 = (t : ℕ) % 4 ∧ win0_0.index t 3 = 0)
    ∧ (win0_1.index t 0 = (t : ℕ) / 4 ∧ win0_1.index t 1 = (t : ℕ) % 4)
    ∧ (win0_2.index t 0 = (t : ℕ) / 4 ∧ win0_2.index t 1 = 0 ∧ win0_2.index t 2 = (t : ℕ) % 4 ∧ win0_2.index t 3 = 0)
    ∧ (win0_3.index t 0 = (t : ℕ) / 4 ∧ win0_3.index t 1 = 0 ∧ win0_3.index t 2 = (t : ℕ) % 4 ∧ win0_3.index t 3 = 0) :=
  (by decide +kernel : ∀ t : Fin grid0.N, (win0_0.index t 0 = (t : ℕ) / 4 ∧ win0_0.index t 1 = 0 ∧ win0_0.index t 2 = (t : ℕ) % 4 ∧ win0_0.index t 3 = 0)
    ∧ (win0_1.index t 0 = (t : ℕ) / 4 ∧ win0_1.index t 1 = (t : ℕ) % 4)
    ∧ (win0_2.index t 0 = (t : ℕ) / 4 ∧ win0_2.index t 1 = 0 ∧ win0_2.index t 2 = (t : ℕ) % 4 ∧ win0_2.index t 3 = 0)
    ∧ (win0_3.index t 0 = (t : ℕ) / 4 ∧ win0_3.index t 1 = 0 ∧ win0_3.index t 2 = (t : ℕ) % 4 ∧ win0_3.index t 3 = 0))

variable (m : (ℓ : Loc nD τ sig) → Buf (Elt Ideal) ℓ)

/-- The scale of the scores, in powers of two. -/
def qscale : EReal :=
  Ideal.div 1 (Ideal.sqrt (Ideal.ofBits FTy.f32 1119879168#32) * Ideal.log (Ideal.ofBits FTy.f32 1073741824#32))

/-- Feature `d` of head `hd` of query `n`, scaled: the part without position, the rotated part, zeros. -/
def qfeat (A0 : FVec Ideal S32x2048x8x64 .f32) (A1 : FVec Ideal S32x2048x8x32 .f32) (b : Fin 32) (n : Fin 2048) (hd : Fin 8)
    (d : Fin 128) : EReal :=
  if h : (d : ℕ) < 96 then
    (if h1 : (d : ℕ) < 64 then A0 (ix4 b n hd ⟨d, h1⟩) else A1 (ix4 b n hd ⟨d - 64, by omega⟩)) * qscale
  else 0

/-- Feature `d` of head `hd` of key `n`. -/
def kfeat (A2 : FVec Ideal S32x2048x8x64 .f32) (A3 : FVec Ideal S32x2048x32 .f32) (b : Fin 32) (n : Fin 2048) (hd : Fin 8)
    (d : Fin 128) : EReal :=
  if h : (d : ℕ) < 96 then
    if h1 : (d : ℕ) < 64 then A2 (ix4 b n hd ⟨d, h1⟩) else A3 (ix3 b n ⟨d - 64, by omega⟩)
  else 0

/-- Row `r` of head `hd` of the values at key `n`: the features, then ones. -/
def vfeat (A4 : FVec Ideal S32x2048x8x64 .f32) (b : Fin 32) (n : Fin 2048) (hd : Fin 8) (r : Fin 80) : EReal :=
  if h : (r : ℕ) < 64 then A4 (ix4 b n hd ⟨r, h⟩) else 1

/-- The queries as laid out for the kernel. -/
theorem v11_at (c : Dev nD) (b : Fin 32) (i : Fin 8) (r : Fin 1024) (q : Fin 256) :
    (V m c main_v11 : FVec Ideal S32x8x1024x256 .bf16) (ix4 b i r q)
      = qfeat (m ((c : Thread nD τ).loc main_arg0)) (m ((c : Thread nD τ).loc main_arg1)) b ⟨i * 256 + q, by omega⟩
        ⟨r / 128, by omega⟩ ⟨r % 128, by omega⟩ := by
  entry_read
  pointwise
  rfl

/-- The keys as laid out for the kernel. -/
theorem v18_at (c : Dev nD) (r : Fin 65536) (d : Fin 1024) :
    (V m c main_v18 : FVec Ideal S65536x1024 .bf16) (ix2 r d)
      = kfeat (m ((c : Thread nD τ).loc main_arg2)) (m ((c : Thread nD τ).loc main_arg3)) ⟨r / 2048, by omega⟩ ⟨r % 2048, by omega⟩
        ⟨d / 128, by omega⟩ ⟨d % 128, by omega⟩ := by
  entry_read
  pointwise
  rfl

/-- The values as laid out for the kernel. -/
theorem v23_at (c : Dev nD) (b : Fin 32) (i : Fin 8) (r : Fin 640) (q : Fin 256) :
    (V m c main_v23 : FVec Ideal S32x8x640x256 .bf16) (ix4 b i r q)
      = vfeat (m ((c : Thread nD τ).loc main_arg4)) b ⟨i * 256 + q, by omega⟩ ⟨r / 80, by omega⟩ ⟨r % 80, by omega⟩ := by
  entry_read
  pointwise
  rfl

end Cert.Proof
-- ==== Proof.MlaBlocks.lean ====
/- The blocks a grid point is given, as features of the queries, keys and values. -/
module

public import proofs.«01_k».proof.Proof.MlaArgs

@[expose] public section

set_option maxRecDepth 16384

noncomputable section

namespace Cert.Proof

open Idealize.ShloMosaic Idealize.ShloMosaic.TcCoe Idealize.SL.Sem
open Cert.KernelIdeal Cert.KernelIdeal.Gen

/-- The batch row of a grid point. -/
def row (t : Fin cfg0.N) : Fin 32 := ⟨(t : ℕ) / 4, by have : t.val < 128 := t.isLt; omega⟩
/-- Head `h` of a grid point's pair. -/
def hd (t : Fin cfg0.N) (h : ℕ) (hh : h < 2) : Fin 8 := ⟨(t : ℕ) % 4 * 2 + h, by omega⟩

variable (m : (ℓ : Loc nD τ sig) → Buf (Elt Ideal) ℓ)

theorem query_at (c : Dev nD) (t : Fin cfg0.N) (h i : ℕ) (hh : h < 2) (hi : i < 8) (d : Fin 128) (q : Fin 256) :
    query (iblk m c 0 t) h i d q = qfeat (m ((c : Thread nD τ).loc main_arg0)) (m ((c : Thread nD τ).loc main_arg1)) (row t)
      ⟨256 * i + q, by omega⟩ (hd t h hh) d := by
  have ht : t.val < 128 := t.isLt
  have e : query (iblk m c 0 t) h i d q = (V m c main_v11 : FVec Ideal S32x8x1024x256 .bf16)
      (ix4 (row t) ⟨i, hi⟩ ⟨(t : ℕ) % 4 * 256 + (128 * h + d), by omega⟩ q) := by
    unfold query row
    blk_simp [iblk, idx_val t]
    refine congrArg (V m c _) ?_
    blk_ext [idx_val t]
    all_goals (simp only [Fin.val_ofNat]; omega)
  rw [e, v11_at]
  unfold hd
  congr 1 <;> apply Fin.ext <;> dsimp only <;> omega

theorem key_at (c : Dev nD) (t : Fin cfg0.N) (h j : ℕ) (hh : h < 2) (hj : j < 8) (k : Fin 256) (d : Fin 128) :
    key (iblk m c 1 t) h j k d = kfeat (m ((c : Thread nD τ).loc main_arg2)) (m ((c : Thread nD τ).loc main_arg3)) (row t)
      ⟨256 * j + k, by omega⟩ (hd t h hh) d := by
  have ht : t.val < 128 := t.isLt
  have e : key (iblk m c 1 t) h j k d = (V m c main_v18 : FVec Ideal S65536x1024 .bf16)
      (ix2 ⟨(t : ℕ) / 4 * 2048 + (256 * j + k), by omega⟩ ⟨(t : ℕ) % 4 * 256 + (128 * h + d), by omega⟩) := by
    unfold key
    blk_simp [iblk, idx_val t]
    refine congrArg (V m c _) ?_
    blk_ext [idx_val t]
    all_goals (simp only [Fin.val_ofNat]; omega)
  rw [e, v18_at]
  unfold hd row
  congr 1 <;> apply Fin.ext <;> dsimp only <;> omega

theorem value_at (c : Dev nD) (t : Fin cfg0.N) (h j : ℕ) (hh : h < 2) (hj : j < 8) (r : Fin 80) (k : Fin 256) :
    value (iblk m c 2 t) h j r k = vfeat (m ((c : Thread nD τ).loc main_arg4)) (row t)
      ⟨256 * j + k, by omega⟩ (hd t h hh) r := by
  have ht : t.val < 128 := t.isLt
  have e : value (iblk m c 2 t) h j r k = (V m c main_v23 : FVec Ideal S32x8x640x256 .bf16)
      (ix4 (row t) ⟨j, hj⟩ ⟨(t : ℕ) % 4 * 160 + (80 * h + r), by omega⟩ k) := by
    unfold value row
    blk_simp [iblk, idx_val t]
    refine congrArg (V m c _) ?_
    blk_ext [idx_val t]
    all_goals (simp only [Fin.val_ofNat]; omega)
  rw [e, v23_at]
  unfold hd
  congr 1 <;> apply Fin.ext <;> dsimp only <;> omega

/-- The values end with a row of ones. -/
theorem blk_ones (c : Dev nD) (t : Fin cfg0.N) : Ones (iblk m c 2 t) := by
  intro h j k
  have e : value (iblk m c 2 t) h j 64 k = value (iblk m c 2 t) (h % 2) (j % 8) 64 k := by
    unfold value
    congr 2 <;> apply Fin.ext <;> simp only [Fin.val_ofNat] <;> omega
  rw [e, value_at m c t (h % 2) (j % 8) (by omega) (by omega)]
  exact dif_neg (by decide)

end Cert.Proof
-- ==== Proof.MlaRun.lean ====
/- The latent attention's kernel at one grid point: each of the sixteen tiles it stores holds the weighted means. -/
module

public import proofs.«01_k».proof.Proof.Gen.KernelIdeal.Frame
public import proofs.«01_k».proof.Proof.MlaStep

@[expose] public section

set_option maxRecDepth 16384

noncomputable section

namespace Cert.Proof

open Idealize.ShloMosaic Idealize.ShloMosaic.TcCoe Idealize.SL.Sem
open Cert.KernelIdeal Cert.KernelIdeal.Gen

attribute [local irreducible] maximumf shapeCast multiReduction addf mulf subf divf exp2 truncf select
  broadcastTo extractStridedSlice View.readCov View.readAt IsTile IsWeight IsValue IsKey IsQuery IsMax Inv

theorem piecesOf_cons {sg : Shape} {e : EltTy} {G : sg.Idx → Elt Ideal e} {r : Rect sg} {w : r.shape.Idx → Elt Ideal e}
    {L : List (View.Piece (Elt Ideal) sg e)} (h : ∀ x, w x = G (r.emb x)) (hL : View.PiecesOf G L) :
    View.PiecesOf G (⟨r, w⟩ :: L) := ⟨h, hL⟩

/-- The invariant at some maximum. -/
def Done (x0 : Queries) (x1 : Keys) (x2 : Values) (h i : ℕ) (acc : FVec Ideal S80x256 .f32) : Prop :=
  ∃ m, Inv x0 x1 x2 h i (i + 1) m acc

theorem done_of {x0 : Queries} {x1 : Keys} {x2 : Values} {h i : ℕ} {m : FVec Ideal S1x256 .f32} {acc : FVec Ideal S80x256 .f32}
    (hI : Inv x0 x1 x2 h i (i + 1) m acc) : Done x0 x1 x2 h i acc := ⟨m, hI⟩

theorem piece {x0 : Queries} {x1 : Keys} {x2 : Values} (hx : Real2 x0 x1) (hv : Ones x2) (h : ℕ) {i : ℕ} {acc : FVec Ideal S80x256 .f32}
    {inb : ∀ a, (![0, i, 64 * h, 0] : Fin 4 → ℕ) a + S1x1x64x256.size a ≤ S1x8x128x256.size a}
    {L : List (View.Piece (Elt Ideal) S1x8x128x256 .f32)}
    (hI : Done x0 x1 x2 h i acc) (hL : View.PiecesOf (outBlock x0 x1 x2) L) :
    View.PiecesOf (outBlock x0 x1 x2) (⟨Rect.unit (s := S1x8x128x256) ![0, i, 64 * h, 0] S1x1x64x256.size inb,
      shapeCast S1x1x64x256 (divf (extractStridedSlice S64x256 ![0, 0] acc slices_S80x256_o0_0_S64x256)
        (broadcastTo S64x256 (extractStridedSlice S1x256 ![64, 0] acc slices_S80x256_o64_0_S1x256) broadcasts_S1x256_S64x256))
      shapeCasts_S64x256_S1x1x64x256⟩ :: L) :=
  ⟨piece_of (inb := inb) hx hv hI, hL⟩

attribute [local irreducible] Done

set_option maxHeartbeats 4000000 in
theorem pieces (c : Dev nD) (i : grid0.Coords) (arg2 : Memref sig .tc .vmem S1x8x256x256 .bf16) (harg2 : arg2.IsWhole) (arg3 : Memref sig .tc .vmem S2048x256 .bf16) (harg3 : arg3.IsWhole) (arg4 : Memref sig .tc .vmem S1x8x160x256 .bf16) (harg4 : arg4.IsWhole) (arg5 : Memref sig .tc .vmem S1x8x128x256 .f32) (harg5 : arg5.IsWhole) (arg6 : Memref sig .tc .vmem S2x256x256 .f32) (harg6 : arg6.IsWhole) (arg7 : Memref sig .tc .vmem S2x256x256 .bf16) (harg7 : arg7.IsWhole)
    (x0 : Queries) (x1 : Keys) (x2 : Values) (hx : Real2 x0 x1) (hv : Ones x2) :
    View.PiecesOf (outBlock x0 x1 x2) (kernelRun0_A (F := Ideal) c i arg2 harg2 arg3 harg3 arg4 harg4 arg5 harg5 arg6 harg6 arg7 harg7 x0 x1 x2).1 := by
  iterate 8
    refine piece hx hv 1 ?_ (piece hx hv 0 ?_ ?_)
    rotate_left 2
  · exact trivial
  all_goals refine done_of (inv_step hx ?_ ?_ ?_ ?_)
  all_goals repeat' first
    | exact inv_zero _ _
    | exact value_load _ _ _ _ _
    | refine inv_step hx ?_ ?_ ?_ ?_
    | refine isMax_of ?_
    | exact tile_raw (by decide) (key_load _ _ _ _ _) (query_load _ _ _ _ _)
    | exact tile_diag (key_load _ _ _ _ _) (query_load _ _ _ _ _)
    | refine tile_head ?_
    | refine tile_skip (by decide) ?_
    | refine weight_of ?_
    | refine weight_head ?_
    | refine weight_skip (by decide) ?_

/-- WHAT A GRID POINT LEAVES in its block of results. -/
theorem block_of (c : Dev nD) (i : grid0.Coords) (arg2 : Memref sig .tc .vmem S1x8x256x256 .bf16) (harg2 : arg2.IsWhole) (arg3 : Memref sig .tc .vmem S2048x256 .bf16) (harg3 : arg3.IsWhole) (arg4 : Memref sig .tc .vmem S1x8x160x256 .bf16) (harg4 : arg4.IsWhole) (arg5 : Memref sig .tc .vmem S1x8x128x256 .f32) (harg5 : arg5.IsWhole) (arg6 : Memref sig .tc .vmem S2x256x256 .f32) (harg6 : arg6.IsWhole) (arg7 : Memref sig .tc .vmem S2x256x256 .bf16) (harg7 : arg7.IsWhole)
    (x0 : Queries) (x1 : Keys) (x2 : Values) (hx : Real2 x0 x1) (hv : Ones x2) :
    out0_A_3 (F := Ideal) c i arg2 harg2 arg3 harg3 arg4 harg4 arg5 harg5 arg6 harg6 arg7 harg7 x0 x1 x2 = outBlock x0 x1 x2 := by
  funext y
  unfold out0_A_3
  rw [View.read_writes_junk_eq_canon, ← List.append_nil (kernelRun0_A (F := Ideal) c i arg2 harg2 arg3 harg3 arg4 harg4 arg5 harg5 arg6 harg6 arg7 harg7 x0 x1 x2).1]
  exact View.canon_append_of_piecesOf _ [] _ (pieces c i arg2 harg2 arg3 harg3 arg4 harg4 arg5 harg5 arg6 harg6 arg7 harg7 x0 x1 x2 hx hv) y
    (cover0_A_3 c i arg2 harg2 arg3 harg3 arg4 harg4 arg5 harg5 arg6 harg6 arg7 harg7 x0 x1 x2 y)

end Cert.Proof
-- ==== Proof.MlaMean.lean ====
/- The mean that a softmax's weights give, in the kernel's form (powers of two, tile after tile, the quotient last) and in
   the problem's (powers of e below a maximum, the quotient first), as one identity of extended reals. -/
module

public import proofs.«01_k».proof.Proof.OnlineSoftmax

@[expose] public section

noncomputable section

namespace Cert.Proof

open Idealize.ShloMosaic Finset

/-- A sum over tiles of 256, as a sum over all entries below the last tile's end. -/
theorem sum_tiles (F : ℕ → EReal) (n : ℕ) : ∑ j ∈ range n, ∑ k : Fin 256, F (256 * j + k) = ∑ x ∈ range (256 * n), F x := by
  induction n with
  | zero => simp
  | succ n ih => rw [sum_range_succ, ih, show 256 * (n + 1) = 256 * n + 256 by ring, sum_range_add, ← sum_range (fun k => F (256 * n + k))]

/-- A sum over the tiles up to tile `i`, as a sum over all keys, those after tile `i` giving nothing. -/
theorem sum_keys (G : Fin 2048 → EReal) (i : ℕ) (hi : i < 8) (hG : ∀ n : Fin 2048, 256 * (i + 1) ≤ (n : ℕ) → G n = 0) (F : ℕ → Fin 256 → EReal)
    (hF : ∀ (j : ℕ) (hj : j ≤ i) (k : Fin 256), F j k = G ⟨256 * j + k, by omega⟩) :
    ∑ j ∈ range (i + 1), ∑ k, F j k = ∑ n, G n := by
  let H : ℕ → EReal := fun n => if h : n < 2048 then G ⟨n, h⟩ else 0
  have e1 : ∑ n, G n = ∑ x ∈ range 2048, H x := by
    rw [sum_range H]
    exact sum_congr rfl fun n _ => by simp only [H, dif_pos n.isLt]
  have e2 : ∑ x ∈ range (256 * (i + 1)), H x = ∑ x ∈ range 2048, H x := by
    refine sum_subset (range_subset_range.2 (by omega)) fun x hx hx' => ?_
    rw [mem_range] at hx hx'
    exact (dif_pos hx).trans (hG _ (by simpa using hx'))
  rw [e1, ← e2, ← sum_tiles H]
  refine sum_congr rfl fun j hj => sum_congr rfl fun k _ => ?_
  rw [mem_range] at hj
  rw [hF j (by omega) k]
  simp only [H]
  rw [dif_pos]

/-- The logits `x * a`, masked, and the same logits in powers of two: `a = c * log 2`. The mean of `V` that the powers of two give is
    the mean of `V` by the softmax of the logits, taken below any real `M`. -/
theorem mean_eq {ι : Type*} [Fintype ι] (x : ι → ℝ) (vis : ι → Prop) [DecidablePred vis] (V : ι → EReal) (i0 : ι) (h0 : vis i0)
    (a c M : ℝ) (hac : a = c * Real.log 2) :
    Ideal.div (∑ i, Ideal.exp2 (if vis i then ((x i * c : ℝ) : EReal) else ⊥) * V i)
        (∑ i, Ideal.exp2 (if vis i then ((x i * c : ℝ) : EReal) else ⊥))
      = ∑ i, V i * Ideal.div (Ideal.exp ((if vis i then ((x i * a : ℝ) : EReal) else ⊥) - M))
          (∑ i, Ideal.exp ((if vis i then ((x i * a : ℝ) : EReal) else ⊥) - M)) := by
  let e : ι → ℝ := fun i => if vis i then Real.exp (x i * a) else 0
  have he : ∀ i, 0 ≤ e i := fun i => by simp only [e]; split <;> positivity
  have h2 : ∀ i, Ideal.exp2 (if vis i then ((x i * c : ℝ) : EReal) else ⊥) = (e i : EReal) := fun i => by
    simp only [e]
    split
    · rw [Ideal.exp2_coe]
      congr 1
      show (2 : ℝ) ^ (x i * c) = _
      rw [Real.rpow_def_of_pos (by norm_num), hac]
      congr 1; ring
    · simp
  have h3 : ∀ i, Ideal.exp ((if vis i then ((x i * a : ℝ) : EReal) else ⊥) - M) = ((e i * Real.exp (-M) : ℝ) : EReal) := fun i => by
    simp only [e]
    split
    · rw [← EReal.coe_sub, Ideal.exp_coe, ← Real.exp_add]
      congr 1
    · simp
  have hS : 0 < ∑ i, e i := by
    refine sum_pos' (fun i _ => he i) ⟨i0, mem_univ _, ?_⟩
    simp only [e, if_pos h0]; positivity
  have hM := Real.exp_pos (-M)
  have cs : ∀ f : ι → ℝ, ∑ i, ((f i : ℝ) : EReal) = ((∑ i, f i : ℝ) : EReal) := fun f => (map_sum (⟨⟨Real.toEReal, rfl⟩, EReal.coe_add⟩ : ℝ →+ EReal) f univ).symm
  simp only [h2, h3]
  rw [cs, cs, Ideal.div_coe hS.ne', ← sum_mul, mul_comm, coe_mul_sum _ (by positivity)]
  refine sum_congr rfl fun i _ => ?_
  rw [Ideal.div_coe (mul_pos hS hM).ne', ← EReal.coe_mul, ← mul_assoc, ← EReal.coe_mul, mul_comm (V i)]
  congr 2
  field_simp

end Cert.Proof
-- ==== Proof.RefMla.lean ====
/- The attention as the problem states it, entry by entry. -/
module

public import proofs.«01_k».proof.Proof.Gen.ReferenceIdeal.Read
public import Idealize.ShloMosaic.Lib.Claim
public import Idealize.ShloMosaic.Lib.Pointwise
public import Idealize.ShloMosaic.Lib.WordCmp

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Read

variable (A0 : FVec Ideal S32x2048x8x64 .f32) (A1 : FVec Ideal S32x2048x8x32 .f32) (A2 : FVec Ideal S32x2048x8x64 .f32)
  (A3 : FVec Ideal S32x2048x32 .f32) (A4 : FVec Ideal S32x2048x8x64 .f32)

/-- The score of a key for a query, before its scale. -/
def raw (b : Fin 32) (h : Fin 8) (q k : Fin 2048) : EReal :=
  (∑ d : Fin 64, A0 (ix4 b q h d) * A2 (ix4 b k h d)) + ∑ d : Fin 32, A3 (ix3 b k d) * A1 (ix4 b q h d)

theorem word_neg_inf : Ideal.ofBits .f32 0xFF800000#32 = ⊥ := by simp [Ideal.ofBits, Ideal.ieee]

theorem v5_at (b : Fin 32) (h : Fin 8) (q k : Fin 2048) :
    val_main_v5 (F := Ideal) A0 A1 A2 A3 (ix4 b h q k) = raw A0 A1 A2 A3 b h q k := by
  rw [val_main_v5_apply, val_main_v2_apply, val_main_v4_apply, val_main_v3_apply]
  refine congrArg₂ (· + ·) (Finset.sum_congr rfl fun d _ => congrArg₂ (· * ·) (congrArg A0 ?_) (congrArg A2 ?_))
    (Finset.sum_congr rfl fun d _ => congrArg₂ (· * ·) (congrArg A3 ?_) (congrArg A1 ?_))
  all_goals exact funext fun a => by fin_cases a <;> rfl

theorem v15_at (b : Fin 32) (h : Fin 8) (q k : Fin 2048) :
    val_main_v15 (F := Ideal) A0 A1 A2 A3 (ix4 b h q k) =
      if k ≤ q then raw A0 A1 A2 A3 b h q k * Ideal.div 1 (Ideal.sqrt (Ideal.ofBits .f32 1119879168#32)) else ⊥ := by
  rw [← v5_at]
  rw [val_main_v15_apply, val_main_v7_apply, val_main_v6_apply, val_main_v1_apply, val_main_call0_v1_apply, val_main_call0_v2_apply,
    val_main_call0_v0_apply]
  pointwise [val_main_v14_apply, val_main_v13_apply, val_main_v12_apply, val_main_v11_apply, val_main_v10_apply, val_main_v9_apply, val_main_v8_apply,
    val_main_v0_apply, val_main_cst_apply, val_main_cst_0_apply, val_main_cst_1_apply]
  have hk := k.isLt
  have hq := q.isLt
  simp (disch := omega) only [hlo_ix]
  rw [word_neg_inf]
  rfl

/-- The largest masked score is a real when every score is, the query's own among them. -/
theorem v18_real (b : Fin 32) (h : Fin 8) (q : Fin 2048)
    (hT : ∀ k, val_main_v15 (F := Ideal) A0 A1 A2 A3 (ix4 b h q k) ≠ (⊤ : EReal))
    (hB : val_main_v15 (F := Ideal) A0 A1 A2 A3 (ix4 b h q q) ≠ (⊥ : EReal)) :
    ∃ M : ℝ, val_main_v18 (F := Ideal) A0 A1 A2 A3 (ix3 b h q) = (M : EReal) := by
  have e : val_main_v18 (F := Ideal) A0 A1 A2 A3 (ix3 b h q) =
      max (⊥ : EReal) (Finset.fold max ⊥ (fun k => val_main_v15 (F := Ideal) A0 A1 A2 A3 (ix4 b h q k)) Finset.univ) := by
    rw [val_main_v18_apply, val_main_v17_apply]
    pointwise [val_main_v16]
    have e1 : (val_main_cst_3 (F := Ideal)) (idx_main_v17 (ix3 b h q)) = (⊥ : EReal) := by
      rw [val_main_cst_3_apply]
      exact word_neg_inf
    have e2 : (val_main_cst_2 (F := Ideal)) (Shape.Idx.first h_S_) = (⊥ : EReal) := by
      rw [val_main_cst_2_apply]
      exact word_neg_inf
    rw [e1, e2]
  rw [e, max_bot_left]
  have h1 : Finset.fold max (⊥ : EReal) (fun k => val_main_v15 (F := Ideal) A0 A1 A2 A3 (ix4 b h q k)) Finset.univ ≠ ⊤ :=
    ne_of_lt ((Finset.fold_max_lt _).2 ⟨bot_lt_top, fun k _ => lt_top_iff_ne_top.2 (hT k)⟩)
  have h2 : Finset.fold max (⊥ : EReal) (fun k => val_main_v15 (F := Ideal) A0 A1 A2 A3 (ix4 b h q k)) Finset.univ ≠ ⊥ :=
    ne_of_gt ((Finset.lt_fold_max _).2 (Or.inr ⟨q, Finset.mem_univ _, bot_lt_iff_ne_bot.2 hB⟩))
  exact ⟨_, (EReal.coe_toReal h1 h2).symm⟩

theorem v22_at (b : Fin 32) (h : Fin 8) (q k : Fin 2048) :
    val_main_v22 (F := Ideal) A0 A1 A2 A3 (ix4 b h q k) =
      Ideal.exp (val_main_v15 (F := Ideal) A0 A1 A2 A3 (ix4 b h q k) - val_main_v18 (F := Ideal) A0 A1 A2 A3 (ix3 b h q)) := by
  rw [val_main_v22_apply, val_main_v21_apply, val_main_v20_apply, val_main_v19_apply]
  have e : idx_main_v19 (idx_main_v20 (ix4 b h q k)) = ix3 b h q := funext fun a => by fin_cases a <;> rfl
  rw [e]
  rfl

theorem v26_at (b : Fin 32) (h : Fin 8) (q k : Fin 2048) :
    val_main_v26 (F := Ideal) A0 A1 A2 A3 (ix4 b h q k) =
      Ideal.div (Ideal.exp (val_main_v15 (F := Ideal) A0 A1 A2 A3 (ix4 b h q k) - val_main_v18 (F := Ideal) A0 A1 A2 A3 (ix3 b h q)))
        (∑ k, Ideal.exp (val_main_v15 (F := Ideal) A0 A1 A2 A3 (ix4 b h q k) - val_main_v18 (F := Ideal) A0 A1 A2 A3 (ix3 b h q))) := by
  rw [val_main_v26_apply, val_main_v25_apply, val_main_v24_apply, val_main_v23_apply, v22_at]
  refine congrArg (Ideal.div _) ?_
  have e : (val_main_cst_4 (F := Ideal)) (Shape.Idx.first h_S_) = (0 : EReal) := by
    rw [val_main_cst_4_apply]
    show Ideal.ofBits .f32 0x00000000#32 = 0
    simp [Ideal.ofBits, Ideal.ieee]
  rw [e, zero_add]
  refine Finset.sum_congr rfl fun k' _ => ?_
  have e : idx_main_v23 (idx_main_v24 (idx_main_v25 (ix4 b h q k))) k' = ix4 b h q k' := funext fun a => by fin_cases a <;> rfl
  rw [e, v22_at]

theorem v30_at (b : Fin 32) (i : Fin 8) (r : Fin 512) (q : Fin 256) :
    val_main_v30 (F := Ideal) A0 A1 A2 A3 A4 (ix4 b i r q) =
      ∑ k, A4 (ix4 b k ⟨r / 64, by omega⟩ ⟨r % 64, by omega⟩)
        * val_main_v26 (F := Ideal) A0 A1 A2 A3 (ix4 b ⟨r / 64, by omega⟩ ⟨i * 256 + q, by omega⟩ k) := by
  rw [val_main_v30_apply, val_main_v29_apply, val_main_v28_apply, val_main_v27_apply]
  refine Finset.sum_congr rfl fun k _ => congrArg₂ (· * ·) (congrArg A4 ?_) (congrArg _ ?_)
  all_goals
    refine funext fun a => ?_
    fin_cases a <;> apply Fin.ext <;> first | rfl | skip
  all_goals first
    | (show ((((b : ℕ) * 8 + i) * 256 + q) * 512 + r) / 1048576 = (b : ℕ); omega)
    | (show ((((b : ℕ) * 8 + i) * 256 + q) * 512 + r) / 64 % 8 = (r : ℕ) / 64; omega)
    | (show ((((b : ℕ) * 8 + i) * 256 + q) * 512 + r) % 64 = (r : ℕ) % 64; omega)
    | (show ((((b : ℕ) * 8 + i) * 256 + q) * 512 + r) / 512 % 2048 = (i : ℕ) * 256 + q; omega)

end Cert.Proof
-- ==== Proof.MlaScore.lean ====
/- The scores of the kernel's laid out queries and keys are the problem's, in powers of two. -/
module

public import proofs.«01_k».proof.Proof.MlaArgs
public import proofs.«01_k».proof.Proof.RefMla

@[expose] public section

set_option maxRecDepth 16384

noncomputable section

namespace Cert.Proof

open Idealize.ShloMosaic Idealize.ShloMosaic.TcCoe Idealize.SL.Sem
open Cert.KernelIdeal Cert.KernelIdeal.Gen

/-- The scale of the logits. -/
def scaleE : ℝ := 1 / Real.sqrt 96
/-- The scale of the logits in powers of two. -/
def scale2 : ℝ := 1 / (Real.sqrt 96 * Real.log 2)

theorem scales : scaleE = scale2 * Real.log 2 := by
  have : Real.log 2 ≠ 0 := (Real.log_pos (by norm_num)).ne'
  unfold scaleE scale2
  field_simp

theorem word_96 : Ideal.ofBits .f32 1119879168#32 = ((96 : ℝ) : EReal) := by
  simp [Ideal.ofBits, Ideal.ieee, -EReal.coe_mul]; norm_num
theorem word_2 : Ideal.ofBits .f32 1073741824#32 = ((2 : ℝ) : EReal) := by
  simp [Ideal.ofBits, Ideal.ieee, -EReal.coe_mul]; norm_num

theorem sqrt_96 : (0 : ℝ) < Real.sqrt 96 := Real.sqrt_pos.2 (by norm_num)

theorem refscale_eq : Ideal.div 1 (Ideal.sqrt (Ideal.ofBits .f32 1119879168#32)) = (scaleE : EReal) := by
  rw [word_96, Ideal.sqrt_coe, if_neg (by norm_num), Ideal.div_coe sqrt_96.ne', one_mul]
  rfl

theorem qscale_eq : qscale = (scale2 : EReal) := by
  have h2 : 0 < Real.log 2 := Real.log_pos (by norm_num)
  unfold qscale
  rw [word_96, word_2, Ideal.sqrt_coe, if_neg (by norm_num), Ideal.log_coe, if_neg (by norm_num), ← EReal.coe_mul,
    Ideal.div_coe (mul_pos sqrt_96 h2).ne', one_mul]
  rfl

/-- A sum over 128 features: 64, then 32, then 32. -/
theorem sum_128 (f : Fin 128 → EReal) : ∑ d, f d = (∑ d : Fin 64, f ⟨d, by omega⟩) + ((∑ d : Fin 32, f ⟨64 + d, by omega⟩)
    + ∑ d : Fin 32, f ⟨96 + d, by omega⟩) := by
  rw [show ∑ d, f d = ∑ d : Fin (64 + 64), f d from rfl, Fin.sum_univ_add]
  refine congrArg₂ (· + ·) rfl ?_
  rw [show ∑ d : Fin 64, f (Fin.natAdd 64 d) = ∑ d : Fin (32 + 32), f (Fin.natAdd 64 d) from rfl, Fin.sum_univ_add]
  rfl

theorem coe_sum {ι : Type*} [Fintype ι] (f : ι → ℝ) : ∑ i, ((f i : ℝ) : EReal) = ((∑ i, f i : ℝ) : EReal) :=
  (map_sum (⟨⟨Real.toEReal, rfl⟩, EReal.coe_add⟩ : ℝ →+ EReal) f Finset.univ).symm

/-- Of real queries and keys the score is a real, and the kernel's is the same real, scaled. -/
theorem scores (A0 : FVec Ideal S32x2048x8x64 .f32) (A1 : FVec Ideal S32x2048x8x32 .f32) (A2 : FVec Ideal S32x2048x8x64 .f32)
    (A3 : FVec Ideal S32x2048x32 .f32) (h0 : ∀ j, ∃ r : ℝ, A0 j = (r : EReal)) (h1 : ∀ j, ∃ r : ℝ, A1 j = (r : EReal))
    (h2 : ∀ j, ∃ r : ℝ, A2 j = (r : EReal)) (h3 : ∀ j, ∃ r : ℝ, A3 j = (r : EReal)) :
    ∃ x : Fin 32 → Fin 8 → Fin 2048 → Fin 2048 → ℝ, ∀ b h q k, raw A0 A1 A2 A3 b h q k = (x b h q k : EReal)
      ∧ ∑ d : Fin 128, kfeat A2 A3 b k h d * qfeat A0 A1 b q h d = ((x b h q k * scale2 : ℝ) : EReal) := by
  choose a0 e0 using h0
  choose a1 e1 using h1
  choose a2 e2 using h2
  choose a3 e3 using h3
  refine ⟨fun b h q k => (∑ d : Fin 64, a0 (ix4 b q h d) * a2 (ix4 b k h d)) + ∑ d : Fin 32, a3 (ix3 b k d) * a1 (ix4 b q h d),
    fun b h q k => ⟨?_, ?_⟩⟩
  · unfold raw
    simp only [e0, e1, e2, e3, ← EReal.coe_mul, coe_sum, ← EReal.coe_add]
  · rw [sum_128]
    have z : ∑ d : Fin 32, kfeat A2 A3 b k h ⟨96 + d, by omega⟩ * qfeat A0 A1 b q h ⟨96 + d, by omega⟩ = 0 :=
      Finset.sum_eq_zero fun d _ => by
        unfold kfeat qfeat
        rw [dif_neg (by dsimp only; omega), zero_mul]
    have s1 : ∀ d : Fin 64, kfeat A2 A3 b k h ⟨d, by omega⟩ * qfeat A0 A1 b q h ⟨d, by omega⟩
        = ((a0 (ix4 b q h d) * a2 (ix4 b k h d) * scale2 : ℝ) : EReal) := fun d => by
      unfold kfeat qfeat
      rw [dif_pos (by dsimp only; omega), dif_pos (by dsimp only; omega), dif_pos (by dsimp only; omega), dif_pos (by dsimp only; omega),
        e0, e2, qscale_eq, ← EReal.coe_mul, ← EReal.coe_mul]
      congr 1
      ring
    have s2 : ∀ d : Fin 32, kfeat A2 A3 b k h ⟨64 + d, by omega⟩ * qfeat A0 A1 b q h ⟨64 + d, by omega⟩
        = ((a3 (ix3 b k d) * a1 (ix4 b q h d) * scale2 : ℝ) : EReal) := fun d => by
      unfold kfeat qfeat
      rw [dif_pos (by dsimp only; omega), dif_neg (by dsimp only; omega), dif_pos (by dsimp only; omega), dif_neg (by dsimp only; omega)]
      have ed : (⟨64 + (d : ℕ) - 64, by omega⟩ : Fin 32) = d := Fin.ext (by dsimp only; omega)
      rw [ed, e1, e3, qscale_eq, ← EReal.coe_mul, ← EReal.coe_mul]
      congr 1
      ring
    rw [z, add_zero, Finset.sum_congr rfl fun d _ => s1 d, Finset.sum_congr rfl fun d _ => s2 d, coe_sum, coe_sum, ← EReal.coe_add,
      add_mul, Finset.sum_mul, Finset.sum_mul]

end Cert.Proof
-- ==== Proof.MlaFinal.lean ====
/- The latent attention's result: every entry the launch writes is the problem's. -/
module

public import proofs.«01_k».proof.Proof.MlaBlocks
public import proofs.«01_k».proof.Proof.MlaRun
public import proofs.«01_k».proof.Proof.MlaMean
public import proofs.«01_k».proof.Proof.MlaScore
public import proofs.«01_k».proof.Proof.Gen.KernelIdeal.Value

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The queries and the keys of a device are real. -/
structure Reals (c : Dev nD) : Prop where
  q0 : ∀ j : S32x2048x8x64.Idx, ∃ r : ℝ, (m ((c : Thread nD τ).loc main_arg0) : FVec Ideal S32x2048x8x64 .f32) j = (r : EReal)
  q1 : ∀ j : S32x2048x8x32.Idx, ∃ r : ℝ, (m ((c : Thread nD τ).loc main_arg1) : FVec Ideal S32x2048x8x32 .f32) j = (r : EReal)
  k0 : ∀ j : S32x2048x8x64.Idx, ∃ r : ℝ, (m ((c : Thread nD τ).loc main_arg2) : FVec Ideal S32x2048x8x64 .f32) j = (r : EReal)
  k1 : ∀ j : S32x2048x32.Idx, ∃ r : ℝ, (m ((c : Thread nD τ).loc main_arg3) : FVec Ideal S32x2048x32 .f32) j = (r : EReal)

variable {m} {c : Dev nD} (hr : Reals m c)
include hr

theorem qfeat_real (b : Fin 32) (n : Fin 2048) (h : Fin 8) (d : Fin 128) :
    ∃ r : ℝ, qfeat (m ((c : Thread nD τ).loc main_arg0)) (m ((c : Thread nD τ).loc main_arg1)) b n h d = (r : EReal) := by
  unfold qfeat
  rw [qscale_eq]
  split
  · split
    · obtain ⟨r, e⟩ := hr.q0 (ix4 b n h ⟨d, by assumption⟩)
      exact ⟨r * scale2, by rw [e, EReal.coe_mul]⟩
    · obtain ⟨r, e⟩ := hr.q1 (ix4 b n h ⟨d - 64, by omega⟩)
      exact ⟨r * scale2, by rw [e, EReal.coe_mul]⟩
  · exact ⟨0, rfl⟩

theorem kfeat_real (b : Fin 32) (n : Fin 2048) (h : Fin 8) (d : Fin 128) :
    ∃ r : ℝ, kfeat (m ((c : Thread nD τ).loc main_arg2)) (m ((c : Thread nD τ).loc main_arg3)) b n h d = (r : EReal) := by
  unfold kfeat
  split
  · split
    · exact hr.k0 _
    · exact hr.k1 _
  · exact ⟨0, rfl⟩

/-- The blocks of queries and keys of a grid point are real. -/
theorem blk_real (t : Fin cfg0.N) : Real2 (iblk m c 0 t) (iblk m c 1 t) := by
  constructor
  · intro j
    have e : (iblk m c 0 t : Queries) j = query (iblk m c 0 t) ((j 2 : ℕ) / 128) (j 1 : ℕ) ⟨(j 2 : ℕ) % 128, by omega⟩ ⟨(j 3 : ℕ), (j 3).isLt⟩ := by
      unfold query
      refine congrArg (iblk m c 0 t : Queries) (funext fun a => ?_)
      have h0 : (j 0 : ℕ) < 1 := (j 0).isLt
      have h1 : (j 1 : ℕ) < 8 := (j 1).isLt
      have h2 : (j 2 : ℕ) < 256 := (j 2).isLt
      fin_cases a <;> apply Fin.ext
      · show (j 0 : ℕ) = 0; omega
      · show (j 1 : ℕ) = (j 1 : ℕ) % 8; omega
      · show (j 2 : ℕ) = (128 * ((j 2 : ℕ) / 128) + (j 2 : ℕ) % 128) % 256; omega
      · rfl
    have h2 : (j 2 : ℕ) < 256 := (j 2).isLt
    have hh : (j 2 : ℕ) / 128 < 2 := by omega
    rw [e, query_at m c t _ _ hh (j 1).isLt]
    exact qfeat_real hr _ _ _ _
  · intro j
    have e : (iblk m c 1 t : Keys) j = key (iblk m c 1 t) ((j 1 : ℕ) / 128) ((j 0 : ℕ) / 256) ⟨(j 0 : ℕ) % 256, by omega⟩ ⟨(j 1 : ℕ) % 128, by omega⟩ := by
      unfold key
      refine congrArg (iblk m c 1 t : Keys) (funext fun a => ?_)
      have h0 : (j 0 : ℕ) < 2048 := (j 0).isLt
      have h1 : (j 1 : ℕ) < 256 := (j 1).isLt
      fin_cases a <;> apply Fin.ext
      · show (j 0 : ℕ) = (256 * ((j 0 : ℕ) / 256) + (j 0 : ℕ) % 256) % 2048; omega
      · show (j 1 : ℕ) = (128 * ((j 1 : ℕ) / 128) + (j 1 : ℕ) % 128) % 256; omega
    have h0 : (j 0 : ℕ) < 2048 := (j 0).isLt
    have h1 : (j 1 : ℕ) < 256 := (j 1).isLt
    have hh : (j 1 : ℕ) / 128 < 2 := by omega
    have hj : (j 0 : ℕ) / 256 < 8 := by omega
    rw [e, key_at m c t _ _ hh hj]
    exact kfeat_real hr _ _ _ _

/-- What a grid point gives for a head, a tile and a query is what the problem says. -/
theorem out_entry (t : Fin cfg0.N) (h i : ℕ) (hh : h < 2) (hi : i < 8) (d : Fin 64) (q : Fin 256) :
    outAt (iblk m c 0 t) (iblk m c 1 t) (iblk m c 2 t) h i ⟨d, by omega⟩ q
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix4 (row t) ⟨i, hi⟩ ⟨64 * (hd t h hh : ℕ) + d, by omega⟩ q) := by
  obtain ⟨x, hx⟩ := scores _ _ _ _ hr.q0 hr.q1 hr.k0 hr.k1
  let p : Fin 2048 := ⟨256 * i + q, by omega⟩
  let T : Fin 2048 → EReal := fun n => if n ≤ p then ((x (row t) (hd t h hh) p n * scale2 : ℝ) : EReal) else ⊥
  have eT : ∀ (j : ℕ) (hj : j ≤ i) (k : Fin 256), masked (iblk m c 0 t) (iblk m c 1 t) h i j k q = T ⟨256 * j + k, by omega⟩ := fun j hj k => by
    have es : score (iblk m c 0 t) (iblk m c 1 t) h i j k q = ((x (row t) (hd t h hh) p ⟨256 * j + k, by omega⟩ * scale2 : ℝ) : EReal) := by
      rw [← (hx (row t) (hd t h hh) p ⟨256 * j + k, by omega⟩).2]
      exact Finset.sum_congr rfl fun d _ => by rw [key_at m c t h j hh (by omega), query_at m c t h i hh hi]
    have hk := k.isLt
    have hq := q.isLt
    simp only [T, masked, es, p, Fin.le_def, Fin.lt_def]
    by_cases hc : j = i ∧ (q : ℕ) < k
    · rw [if_pos hc, if_neg (by omega)]
    · rw [if_neg hc, if_pos (by omega)]
  have eV : ∀ (j : ℕ) (hj : j ≤ i) (k : Fin 256), value (iblk m c 2 t) h j ⟨d, by omega⟩ k
      = (m ((c : Thread nD τ).loc main_arg4) : FVec Ideal S32x2048x8x64 .f32) (ix4 (row t) ⟨256 * j + k, by omega⟩ (hd t h hh) d) := fun j hj k => by
    rw [value_at m c t h j hh (by omega)]
    exact dif_pos d.isLt
  have far : ∀ n : Fin 2048, 256 * (i + 1) ≤ (n : ℕ) → Ideal.exp2 (T n) = 0 := fun n hn => by
    have hq := q.isLt
    simp only [T, p, Fin.le_def]
    rw [if_neg (by omega)]
    simp
  unfold outAt
  rw [sum_keys (fun n => Ideal.exp2 (T n) * (m ((c : Thread nD τ).loc main_arg4) : FVec Ideal S32x2048x8x64 .f32) (ix4 (row t) n (hd t h hh) d)) i hi
      (fun n hn => by rw [far n hn, zero_mul]) _ (fun j hj k => by rw [eT j hj k, eV j hj k]),
    sum_keys (fun n => Ideal.exp2 (T n)) i hi far _ (fun j hj k => by rw [eT j hj k])]
  have e15 : ∀ n, Cert.ReferenceIdeal.Read.val_main_v15 (F := Ideal) (m ((c : Thread nD τ).loc main_arg0)) (m ((c : Thread nD τ).loc main_arg1))
          (m ((c : Thread nD τ).loc main_arg2)) (m ((c : Thread nD τ).loc main_arg3)) (ix4 (row t) (hd t h hh) p n)
      = if n ≤ p then ((x (row t) (hd t h hh) p n * scaleE : ℝ) : EReal) else ⊥ := fun n => by
    rw [v15_at, refscale_eq, (hx _ _ _ _).1, EReal.coe_mul]
  obtain ⟨M, hM⟩ := v18_real (m ((c : Thread nD τ).loc main_arg0)) (m ((c : Thread nD τ).loc main_arg1))
    (m ((c : Thread nD τ).loc main_arg2)) (m ((c : Thread nD τ).loc main_arg3)) (row t) (hd t h hh) p
    (fun n => by rw [e15]; split; exacts [EReal.coe_ne_top _, bot_ne_top]) (by rw [e15, if_pos le_rfl]; exact EReal.coe_ne_bot _)
  rw [mean_eq (fun n => x (row t) (hd t h hh) p n) (fun n => n ≤ p) _ p le_rfl scaleE scale2 M scales, v30_at]
  have hd2 := d.isLt
  have i1 : (⟨(64 * (hd t h hh : ℕ) + d) / 64, by omega⟩ : Fin 8) = hd t h hh := Fin.ext (by dsimp only; omega)
  have i2 : (⟨(64 * (hd t h hh : ℕ) + d) % 64, by omega⟩ : Fin 64) = d := Fin.ext (by dsimp only; omega)
  have i3 : (⟨i * 256 + q, by omega⟩ : Fin 2048) = p := Fin.ext (by simp only [p]; omega)
  refine Finset.sum_congr rfl fun n _ => ?_
  dsimp only
  rw [i1, i2, i3, v26_at, hM]
  simp only [e15]

/-- The block a grid point writes is the problem's attention, read where the block lies. -/
theorem out_block (t : Fin cfg0.N) (y : S1x8x128x256.Idx) :
    outBlock (iblk m c 0 t) (iblk m c 1 t) (iblk m c 2 t) y
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          ((win0_3.blk t).view.emb y) := by
  have ht : t.val < 128 := t.isLt
  have h2 : (y 2 : ℕ) < 128 := (y 2).isLt
  have hh : (y 2 : ℕ) / 64 < 2 := by omega
  have hm : (y 2 : ℕ) % 64 < 64 := by omega
  have e : Fin.ofNat 80 ((y 2 : ℕ) % 64) = ⟨(⟨(y 2 : ℕ) % 64, hm⟩ : Fin 64), by omega⟩ := Fin.ext (by simp only [Fin.val_ofNat]; omega)
  unfold outBlock
  rw [e]
  refine (out_entry hr t _ _ hh (y 1).isLt _ ⟨(y 3 : ℕ), (y 3).isLt⟩).trans (congrArg _ ?_)
  unfold row hd
  idx_vars y
  blk_ext [idx_val t]

/-- The array the launch leaves is the problem's attention. -/
theorem mla_final : (dats m 0 c).arrAt 3 cfg0.N
    = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]
  unfold outsAt0
  rw [block_of _ _ _ _ _ _ _ _ _ _ _ _ _ _ _ _ _ (blk_real hr t) (blk_ones m c t)]
  exact out_block hr t y

end Cert.Proof
-- ==== Proof.Ffn2Row.lean ====
/- One token of the output projection and the second feed-forward block, as the problem's mathematics. -/
module

public import Idealize.ShloMosaic.Lib.Claim
public import Idealize.ShloMosaic.Lib.Pointwise

@[expose] public section

set_option maxRecDepth 16384

noncomputable section

namespace Cert.Proof.Ffn2

open Idealize.ShloMosaic Idealize.ShloMosaic.TcCoe Idealize.SL.Sem

/-- The small constant under the root. -/
def eps : EReal := Ideal.ofBits .f32 897988541#32
/-- The widths of a normalised row, and a half. -/
def w512 : EReal := Ideal.ofBits .f32 1140850688#32
def w1024 : EReal := Ideal.ofBits .f32 1149239296#32
def half : EReal := Ideal.ofBits .f32 1056964608#32

/-- A row over its root mean square, times a gain. -/
def rms {n : ℕ} (w : EReal) (x g : Fin n → EReal) (j : Fin n) : EReal :=
  x j * Ideal.rsqrt (Ideal.div (∑ k, x k * x k) w + eps) * g j

/-- The hidden state with the two attentions' features projected onto it. -/
def mid (h : Fin 1024 → EReal) (a s : Fin 512 → EReal) (wa ws : Fin 512 → Fin 1024 → EReal) (j : Fin 1024) : EReal :=
  h j + ∑ k, a k * wa k j + ∑ k, s k * ws k j

/-- A gated unit of the feed-forward block. -/
def act (x : Fin 1024 → EReal) (wg wu : Fin 1024 → Fin 2816 → EReal) (f : Fin 2816) : EReal :=
  (∑ k, x k * wg k f) * Ideal.logistic (∑ k, x k * wg k f) * ∑ k, x k * wu k f

/-- The hidden state after half the feed-forward block's result. -/
def third (y g : Fin 1024 → EReal) (wg wu : Fin 1024 → Fin 2816 → EReal) (wd : Fin 2816 → Fin 1024 → EReal) (j : Fin 1024) : EReal :=
  y j + half * ∑ f, act (rms w1024 y g) wg wu f * wd f j

end Cert.Proof.Ffn2
-- ==== Proof.Ffn2Step.lean ====
/- The kernel of the output projection and the second feed-forward block: what each of its computed blocks holds, row by row. -/
module

public import proofs.«01_k».proof.Proof.Gen.Kernel2Ideal.Frame
public import Idealize.ShloMosaic.Lib.Pipeline.ValueKit
public import proofs.«01_k».proof.Proof.Ffn2Row

@[expose] public section

set_option maxRecDepth 16384

noncomputable section

namespace Cert.Proof.Ffn2

open Idealize.ShloMosaic Idealize.ShloMosaic.TcCoe Idealize.SL.Sem
open Cert.Kernel2Ideal Cert.Kernel2Ideal.Gen

/-- The tile of the latent attention's features of a block, a token per row. -/
def mlaTile (x : Vec Ideal S1x2x512x256 .f32) : FVec Ideal S512x512 .f32 :=
  k0_pay6 (View.ld x (Rect.unit (s := S1x2x512x256) ![0, 0, 0, 0] S1x1x512x256.size inb_S1x2x512x256_S1x1x512x256_0_0_0_0))
    (View.ld x (Rect.unit (s := S1x2x512x256) ![0, 1, 0, 0] S1x1x512x256.size inb_S1x2x512x256_S1x1x512x256_0_1_0_0))
/-- The tile of the window attention's features of a block, a token per row. -/
def swaTile (x : Vec Ideal S1x4x512x128 .f32) : FVec Ideal S512x512 .f32 :=
  k0_pay17 (View.ld x (Rect.unit (s := S1x4x512x128) ![0, 0, 0, 0] S1x1x512x128.size inb_S1x4x512x128_S1x1x512x128_0_0_0_0))
    (View.ld x (Rect.unit (s := S1x4x512x128) ![0, 1, 0, 0] S1x1x512x128.size inb_S1x4x512x128_S1x1x512x128_0_1_0_0))
    (View.ld x (Rect.unit (s := S1x4x512x128) ![0, 2, 0, 0] S1x1x512x128.size inb_S1x4x512x128_S1x1x512x128_0_2_0_0))
    (View.ld x (Rect.unit (s := S1x4x512x128) ![0, 3, 0, 0] S1x1x512x128.size inb_S1x4x512x128_S1x1x512x128_0_3_0_0))

theorem mlaTile_at (x : Vec Ideal S1x2x512x256 .f32) (i k : Fin 512) :
    mlaTile x (ix2 i k) = x (ix4 0 ⟨i / 256, by omega⟩ k ⟨i % 256, by omega⟩) := by
  pointwise [mlaTile, k0_pay6]
  blk_point []

theorem swaTile_at (x : Vec Ideal S1x4x512x128 .f32) (i k : Fin 512) :
    swaTile x (ix2 i k) = x (ix4 0 ⟨i / 128, by omega⟩ k ⟨i % 128, by omega⟩) := by
  pointwise [swaTile, k0_pay17]
  blk_point []

/-- A normalised tile of attention features. -/
theorem norm_at (x : FVec Ideal S512x512 .f32) (g : Vec Ideal S1x512 .f32) (i k : Fin 512) :
    k0_pay20 x g (ix2 i k) = rms w512 (fun k => x (ix2 i k)) (fun k => g (ix2 0 k)) k := by
  pointwise [k0_pay20]
  rfl

/-- A normalised tile of the result. -/
theorem out_at (x : Vec Ideal S512x1024 .f32) (g : Vec Ideal S1x1024 .f32) (i : Fin 512) (j : Fin 1024) :
    k0_pay16 x g (ix2 i j) = rms w1024 (fun k => x (ix2 i k)) (fun k => g (ix2 0 k)) j := by
  pointwise [k0_pay16]
  rfl

section
variable (x0 : Vec Ideal S512x1024 .f32) (am sm : Vec Ideal S512x512 .bf16) (wa ws : Vec Ideal S512x1024 .bf16) (g : Vec Ideal S1x1024 .f32)

/-- The hidden state of a tile after the output projection: two halves of its rows. -/
def midTile : FVec Ideal S512x1024 .f32 :=
  k0_pay14 (k0_pay10 (View.ld x0 (Rect.unit (s := S512x1024) ![0, 0] S256x1024.size inb_S512x1024_S256x1024_0_0)) (View.ld am (Rect.unit (s := S512x512) ![0, 0] S256x512.size inb_S512x512_S256x512_0_0)) wa (View.ld sm (Rect.unit (s := S512x512) ![0, 0] S256x512.size inb_S512x512_S256x512_0_0)) ws)
    (k0_pay12 (View.ld x0 (Rect.unit (s := S512x1024) ![256, 0] S256x1024.size inb_S512x1024_S256x1024_256_0)) (View.ld am (Rect.unit (s := S512x512) ![256, 0] S256x512.size inb_S512x512_S256x512_256_0)) wa) (View.ld sm (Rect.unit (s := S512x512) ![256, 0] S256x512.size inb_S512x512_S256x512_256_0)) ws

/-- The same, normalised. -/
def normTile : FVec Ideal S512x1024 .bf16 :=
  k0_pay15 (k0_pay11 (View.ld x0 (Rect.unit (s := S512x1024) ![0, 0] S256x1024.size inb_S512x1024_S256x1024_0_0)) (View.ld am (Rect.unit (s := S512x512) ![0, 0] S256x512.size inb_S512x512_S256x512_0_0)) wa (View.ld sm (Rect.unit (s := S512x512) ![0, 0] S256x512.size inb_S512x512_S256x512_0_0)) ws g)
    (k0_pay12 (View.ld x0 (Rect.unit (s := S512x1024) ![256, 0] S256x1024.size inb_S512x1024_S256x1024_256_0)) (View.ld am (Rect.unit (s := S512x512) ![256, 0] S256x512.size inb_S512x512_S256x512_256_0)) wa) (View.ld sm (Rect.unit (s := S512x512) ![256, 0] S256x512.size inb_S512x512_S256x512_256_0)) ws g

theorem midTile_at (i : Fin 512) (j : Fin 1024) : midTile x0 am sm wa ws (ix2 i j)
    = mid (fun j => x0 (ix2 i j)) (fun k => am (ix2 i k)) (fun k => sm (ix2 i k)) (fun k j => wa (ix2 k j)) (fun k j => ws (ix2 k j)) j := by
  unfold mid
  pointwise [midTile, k0_pay14, k0_pay13, k0_pay12, k0_pay10]
  blk_point []

theorem normTile_at (i : Fin 512) (j : Fin 1024) : normTile x0 am sm wa ws g (ix2 i j)
    = rms w1024 (fun j => midTile x0 am sm wa ws (ix2 i j)) (fun k => g (ix2 0 k)) j := by
  unfold rms w1024 eps
  pointwise [normTile, midTile, k0_pay15, k0_pay11, k0_pay14]
  split_ifs with h <;> rfl

end

section
variable (x : FVec Ideal S512x1024 .bf16) (wg wu : Vec Ideal S1024x2816 .bf16)

/-- The tiles of 256 columns of the gate and up weights, in turn. -/
def tiles : Fin 22 → FVec Ideal S1024x256 .bf16 := ![
  k0_pay21 (View.ld wg (Rect.unit (s := S1024x2816) ![0, 0] S1024x256.size inb_S1024x2816_S1024x256_0_0)),
  k0_pay22 (View.ld wu (Rect.unit (s := S1024x2816) ![0, 0] S1024x256.size inb_S1024x2816_S1024x256_0_0)),
  k0_pay23 (View.ld wg (Rect.unit (s := S1024x2816) ![0, 256] S1024x256.size inb_S1024x2816_S1024x256_0_256)),
  k0_pay24 (View.ld wu (Rect.unit (s := S1024x2816) ![0, 256] S1024x256.size inb_S1024x2816_S1024x256_0_256)),
  k0_pay25 (View.ld wg (Rect.unit (s := S1024x2816) ![0, 512] S1024x256.size inb_S1024x2816_S1024x256_0_512)),
  k0_pay26 (View.ld wu (Rect.unit (s := S1024x2816) ![0, 512] S1024x256.size inb_S1024x2816_S1024x256_0_512)),
  k0_pay27 (View.ld wg (Rect.unit (s := S1024x2816) ![0, 768] S1024x256.size inb_S1024x2816_S1024x256_0_768)),
  k0_pay28 (View.ld wu (Rect.unit (s := S1024x2816) ![0, 768] S1024x256.size inb_S1024x2816_S1024x256_0_768)),
  k0_pay29 (View.ld wg (Rect.unit (s := S1024x2816) ![0, 1024] S1024x256.size inb_S1024x2816_S1024x256_0_1024)),
  k0_pay30 (View.ld wu (Rect.unit (s := S1024x2816) ![0, 1024] S1024x256.size inb_S1024x2816_S1024x256_0_1024)),
  k0_pay31 (View.ld wg (Rect.unit (s := S1024x2816) ![0, 1280] S1024x256.size inb_S1024x2816_S1024x256_0_1280)),
  k0_pay32 (View.ld wu (Rect.unit (s := S1024x2816) ![0, 1280] S1024x256.size inb_S1024x2816_S1024x256_0_1280)),
  k0_pay33 (View.ld wg (Rect.unit (s := S1024x2816) ![0, 1536] S1024x256.size inb_S1024x2816_S1024x256_0_1536)),
  k0_pay34 (View.ld wu (Rect.unit (s := S1024x2816) ![0, 1536] S1024x256.size inb_S1024x2816_S1024x256_0_1536)),
  k0_pay35 (View.ld wg (Rect.unit (s := S1024x2816) ![0, 1792] S1024x256.size inb_S1024x2816_S1024x256_0_1792)),
  k0_pay36 (View.ld wu (Rect.unit (s := S1024x2816) ![0, 1792] S1024x256.size inb_S1024x2816_S1024x256_0_1792)),
  k0_pay37 (View.ld wg (Rect.unit (s := S1024x2816) ![0, 2048] S1024x256.size inb_S1024x2816_S1024x256_0_2048)),
  k0_pay38 (View.ld wu (Rect.unit (s := S1024x2816) ![0, 2048] S1024x256.size inb_S1024x2816_S1024x256_0_2048)),
  k0_pay39 (View.ld wg (Rect.unit (s := S1024x2816) ![0, 2304] S1024x256.size inb_S1024x2816_S1024x256_0_2304)),
  k0_pay40 (View.ld wu (Rect.unit (s := S1024x2816) ![0, 2304] S1024x256.size inb_S1024x2816_S1024x256_0_2304)),
  k0_pay41 (View.ld wg (Rect.unit (s := S1024x2816) ![0, 2560] S1024x256.size inb_S1024x2816_S1024x256_0_2560)),
  k0_pay42 (View.ld wu (Rect.unit (s := S1024x2816) ![0, 2560] S1024x256.size inb_S1024x2816_S1024x256_0_2560))]

/-- The tiles, one by one. -/
theorem tiles_eq :
    tiles wg wu 0 = k0_pay21 (View.ld wg (Rect.unit (s := S1024x2816) ![0, 0] S1024x256.size inb_S1024x2816_S1024x256_0_0))
    ∧ tiles wg wu 1 = k0_pay22 (View.ld wu (Rect.unit (s := S1024x2816) ![0, 0] S1024x256.size inb_S1024x2816_S1024x256_0_0))
    ∧ tiles wg wu 2 = k0_pay23 (View.ld wg (Rect.unit (s := S1024x2816) ![0, 256] S1024x256.size inb_S1024x2816_S1024x256_0_256))
    ∧ tiles wg wu 3 = k0_pay24 (View.ld wu (Rect.unit (s := S1024x2816) ![0, 256] S1024x256.size inb_S1024x2816_S1024x256_0_256))
    ∧ tiles wg wu 4 = k0_pay25 (View.ld wg (Rect.unit (s := S1024x2816) ![0, 512] S1024x256.size inb_S1024x2816_S1024x256_0_512))
    ∧ tiles wg wu 5 = k0_pay26 (View.ld wu (Rect.unit (s := S1024x2816) ![0, 512] S1024x256.size inb_S1024x2816_S1024x256_0_512))
    ∧ tiles wg wu 6 = k0_pay27 (View.ld wg (Rect.unit (s := S1024x2816) ![0, 768] S1024x256.size inb_S1024x2816_S1024x256_0_768))
    ∧ tiles wg wu 7 = k0_pay28 (View.ld wu (Rect.unit (s := S1024x2816) ![0, 768] S1024x256.size inb_S1024x2816_S1024x256_0_768))
    ∧ tiles wg wu 8 = k0_pay29 (View.ld wg (Rect.unit (s := S1024x2816) ![0, 1024] S1024x256.size inb_S1024x2816_S1024x256_0_1024))
    ∧ tiles wg wu 9 = k0_pay30 (View.ld wu (Rect.unit (s := S1024x2816) ![0, 1024] S1024x256.size inb_S1024x2816_S1024x256_0_1024))
    ∧ tiles wg wu 10 = k0_pay31 (View.ld wg (Rect.unit (s := S1024x2816) ![0, 1280] S1024x256.size inb_S1024x2816_S1024x256_0_1280))
    ∧ tiles wg wu 11 = k0_pay32 (View.ld wu (Rect.unit (s := S1024x2816) ![0, 1280] S1024x256.size inb_S1024x2816_S1024x256_0_1280))
    ∧ tiles wg wu 12 = k0_pay33 (View.ld wg (Rect.unit (s := S1024x2816) ![0, 1536] S1024x256.size inb_S1024x2816_S1024x256_0_1536))
    ∧ tiles wg wu 13 = k0_pay34 (View.ld wu (Rect.unit (s := S1024x2816) ![0, 1536] S1024x256.size inb_S1024x2816_S1024x256_0_1536))
    ∧ tiles wg wu 14 = k0_pay35 (View.ld wg (Rect.unit (s := S1024x2816) ![0, 1792] S1024x256.size inb_S1024x2816_S1024x256_0_1792))
    ∧ tiles wg wu 15 = k0_pay36 (View.ld wu (Rect.unit (s := S1024x2816) ![0, 1792] S1024x256.size inb_S1024x2816_S1024x256_0_1792))
    ∧ tiles wg wu 16 = k0_pay37 (View.ld wg (Rect.unit (s := S1024x2816) ![0, 2048] S1024x256.size inb_S1024x2816_S1024x256_0_2048))
    ∧ tiles wg wu 17 = k0_pay38 (View.ld wu (Rect.unit (s := S1024x2816) ![0, 2048] S1024x256.size inb_S1024x2816_S1024x256_0_2048))
    ∧ tiles wg wu 18 = k0_pay39 (View.ld wg (Rect.unit (s := S1024x2816) ![0, 2304] S1024x256.size inb_S1024x2816_S1024x256_0_2304))
    ∧ tiles wg wu 19 = k0_pay40 (View.ld wu (Rect.unit (s := S1024x2816) ![0, 2304] S1024x256.size inb_S1024x2816_S1024x256_0_2304))
    ∧ tiles wg wu 20 = k0_pay41 (View.ld wg (Rect.unit (s := S1024x2816) ![0, 2560] S1024x256.size inb_S1024x2816_S1024x256_0_2560))
    ∧ tiles wg wu 21 = k0_pay42 (View.ld wu (Rect.unit (s := S1024x2816) ![0, 2560] S1024x256.size inb_S1024x2816_S1024x256_0_2560)) :=
  ⟨rfl, rfl, rfl, rfl, rfl, rfl, rfl, rfl, rfl, rfl, rfl, rfl, rfl, rfl, rfl, rfl, rfl, rfl, rfl, rfl, rfl, rfl⟩

/-- Gate and up products, side by side by tiles of 256 columns. -/
def gateUp : FVec Ideal S512x5632 .f32 :=
  k0_pay43 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)

theorem tiles_gate (n : Fin 11) (k : Fin 1024) (c : Fin 256) :
    tiles wg wu ⟨2 * n, by omega⟩ (ix2 k c) = wg (ix2 k ⟨256 * n + c, by omega⟩) := by
  fin_cases n
  all_goals
    simp only [tiles]
    pointwise [k0_pay21, k0_pay23, k0_pay25, k0_pay27, k0_pay29, k0_pay31, k0_pay33, k0_pay35, k0_pay37, k0_pay39, k0_pay41]
    done

theorem tiles_up (n : Fin 11) (k : Fin 1024) (c : Fin 256) :
    tiles wg wu ⟨2 * n + 1, by omega⟩ (ix2 k c) = wu (ix2 k ⟨256 * n + c, by omega⟩) := by
  fin_cases n
  all_goals
    simp only [tiles]
    pointwise [k0_pay22, k0_pay24, k0_pay26, k0_pay28, k0_pay30, k0_pay32, k0_pay34, k0_pay36, k0_pay38, k0_pay40, k0_pay42]
    done

theorem product_at (w : FVec Ideal S1024x5632 .bf16) (i : Fin 512) (f : Fin 5632) :
    matmul dot_S512x1024_S1024x5632_S512x5632_1_0_0_1_n_n none x w (constant (F := Ideal) S512x5632 .f32 0x00000000#32) (ix2 i f)
      = ∑ k, x (ix2 i k) * w (ix2 k f) := by
  pointwise []

theorem concat_at (p : Fin 22 → FVec Ideal S1024x256 .bf16) (n : Fin 22) (k : Fin 1024) (c : Fin 256) :
    concatenate S1024x5632 1 (List.ofFn fun n => (⟨S1024x256, p n⟩ : (s : Shape) × (s.Idx → Ideal .bf16)))
      concatenates_S1024x256_S1024x256_S1024x256_S1024x256_S1024x256_S1024x256_S1024x256_S1024x256_S1024x256_S1024x256_S1024x256_S1024x256_S1024x256_S1024x256_S1024x256_S1024x256_S1024x256_S1024x256_S1024x256_S1024x256_S1024x256_S1024x256_S1024x5632_d1
      (ix2 k ⟨256 * n + c, by omega⟩) = p n (ix2 k c) := by
  refine concatenate_ofFn_apply (t := S1024x5632) (s₁ := S1024x256) 1 p _ rfl 256 rfl _ n ?_ _ ?_ ?_
  · show (256 * n.val + c.val) / 256 = n.val
    omega
  · show c.val = (256 * n.val + c.val) % 256
    omega
  · intro b hb
    fin_cases b
    · rfl
    · exact absurd rfl hb

theorem gateUp_at (i : Fin 512) (n : Fin 22) (c : Fin 256) :
    gateUp x wg wu (ix2 i ⟨256 * n + c, by omega⟩) = ∑ k, x (ix2 i k) * tiles wg wu n (ix2 k c) := by
  refine (product_at x _ i _).trans (Finset.sum_congr rfl fun k _ => congrArg _ ?_)
  exact concat_at (tiles wg wu) n k c

/-- A unit gated from the two products side by side. -/
def unit (G : FVec Ideal S512x5632 .f32) (i : Fin 512) (n : Fin 11) (c : Fin 256) : EReal :=
  G (ix2 i ⟨512 * n + c, by omega⟩) * Ideal.logistic (G (ix2 i ⟨512 * n + c, by omega⟩)) * G (ix2 i ⟨512 * n + 256 + c, by omega⟩)

/-- The tiles of 256 gated units. -/
def actTiles : Fin 11 → FVec Ideal S512x256 .bf16 := ![
  k0_pay44 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay45 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay46 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay47 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay48 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay49 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay50 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay51 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  k0_pay52 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21),
  truncf .bf16 (mulf (mulf (k0_pay53 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay55 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21))) (k0_pay54 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21))) bitsLt_bf16_f32,
  truncf .bf16 (mulf (mulf (extractStridedSlice S512x256 ![0, 5120] (gateUp x wg wu) slices_S512x5632_o0_5120_S512x256)
    (logistic (extractStridedSlice S512x256 ![0, 5120] (gateUp x wg wu) slices_S512x5632_o0_5120_S512x256)))
    (extractStridedSlice S512x256 ![0, 5376] (gateUp x wg wu) slices_S512x5632_o0_5376_S512x256)) bitsLt_bf16_f32]

theorem actTiles_unit (n : Fin 11) (i : Fin 512) (c : Fin 256) :
    actTiles x wg wu n (ix2 i c) = unit (gateUp x wg wu) i n c := by
  fin_cases n
  all_goals
    simp only [actTiles, unit]
    pointwise [k0_pay44, k0_pay45, k0_pay46, k0_pay47, k0_pay48, k0_pay49, k0_pay50, k0_pay51, k0_pay52, k0_pay53, k0_pay54, k0_pay55]
    try rfl

theorem actTiles_at (n : Fin 11) (i : Fin 512) (c : Fin 256) :
    actTiles x wg wu n (ix2 i c) = act (fun k => x (ix2 i k)) (fun k f => wg (ix2 k f)) (fun k f => wu (ix2 k f)) ⟨256 * n + c, by omega⟩ := by
  have hg : gateUp x wg wu (ix2 i ⟨512 * n + c, by omega⟩) = ∑ k, x (ix2 i k) * wg (ix2 k ⟨256 * n + c, by omega⟩) := by
    refine ((congrArg (fun f => gateUp x wg wu (ix2 i f)) (Fin.ext ?_)).trans (gateUp_at x wg wu i ⟨2 * n, by omega⟩ c)).trans
      (Finset.sum_congr rfl fun k _ => congrArg _ (tiles_gate wg wu n k c))
    show 512 * n.val + c.val = 256 * (2 * n.val) + c.val
    omega
  have hu : gateUp x wg wu (ix2 i ⟨512 * n + 256 + c, by omega⟩) = ∑ k, x (ix2 i k) * wu (ix2 k ⟨256 * n + c, by omega⟩) := by
    refine ((congrArg (fun f => gateUp x wg wu (ix2 i f)) (Fin.ext ?_)).trans (gateUp_at x wg wu i ⟨2 * n + 1, by omega⟩ c)).trans
      (Finset.sum_congr rfl fun k _ => congrArg _ (tiles_up wg wu n k c))
    show 512 * n.val + 256 + c.val = 256 * (2 * n.val + 1) + c.val
    omega
  rw [actTiles_unit, unit, hg, hu]
  rfl

theorem concat_act_at (p : Fin 11 → FVec Ideal S512x256 .bf16) (n : Fin 11) (i : Fin 512) (c : Fin 256) :
    concatenate S512x2816 1 (List.ofFn fun n => (⟨S512x256, p n⟩ : (s : Shape) × (s.Idx → Ideal .bf16)))
      concatenates_S512x256_S512x256_S512x256_S512x256_S512x256_S512x256_S512x256_S512x256_S512x256_S512x256_S512x256_S512x2816_d1
      (ix2 i ⟨256 * n + c, by omega⟩) = p n (ix2 i c) := by
  refine concatenate_ofFn_apply (t := S512x2816) (s₁ := S512x256) 1 p _ rfl 256 rfl _ n ?_ _ ?_ ?_
  · show (256 * n.val + c.val) / 256 = n.val
    omega
  · show c.val = (256 * n.val + c.val) % 256
    omega
  · intro b hb
    fin_cases b
    · rfl
    · exact absurd rfl hb

theorem concat_act (i : Fin 512) (f : Fin 2816) :
    concatenate S512x2816 1 (List.ofFn fun n => (⟨S512x256, actTiles x wg wu n⟩ : (s : Shape) × (s.Idx → Ideal .bf16)))
      concatenates_S512x256_S512x256_S512x256_S512x256_S512x256_S512x256_S512x256_S512x256_S512x256_S512x256_S512x256_S512x2816_d1
      (ix2 i f) = act (fun k => x (ix2 i k)) (fun k f => wg (ix2 k f)) (fun k f => wu (ix2 k f)) f := by
  have e : f = ⟨256 * (⟨f / 256, by omega⟩ : Fin 11) + (⟨f % 256, by omega⟩ : Fin 256), by show 256 * (f.val / 256) + f.val % 256 < 2816; omega⟩ :=
    Fin.ext (by show f.val = 256 * (f.val / 256) + f.val % 256; omega)
  rw [e, concat_act_at, actTiles_at]

/-- The hidden state of a tile after half the feed-forward block's result. -/
def thirdTile (y : FVec Ideal S512x1024 .f32) (wd : Vec Ideal S2816x1024 .bf16) : FVec Ideal S512x1024 .f32 :=
  k0_pay4 y (gateUp x wg wu) (k0_pay44 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay45 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay46 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay47 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay48 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay49 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay50 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay51 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay52 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21))
    (k0_pay53 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay54 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) (k0_pay55 x (tiles wg wu 0) (tiles wg wu 1) (tiles wg wu 2) (tiles wg wu 3) (tiles wg wu 4) (tiles wg wu 5) (tiles wg wu 6) (tiles wg wu 7) (tiles wg wu 8) (tiles wg wu 9) (tiles wg wu 10) (tiles wg wu 11) (tiles wg wu 12) (tiles wg wu 13) (tiles wg wu 14) (tiles wg wu 15) (tiles wg wu 16) (tiles wg wu 17) (tiles wg wu 18) (tiles wg wu 19) (tiles wg wu 20) (tiles wg wu 21)) wd

theorem down_at (y : FVec Ideal S512x1024 .f32) (a : FVec Ideal S512x2816 .bf16) (wd : Vec Ideal S2816x1024 .bf16) (i : Fin 512) (j : Fin 1024) :
    shapeCast S512x1024 (addf y (mulf (broadcast S512x1024 (Scalar.ofBits (F := Ideal) .f32 0x3F000000#32))
      (matmul (φ₂ := .bf16) dot_S512x2816_S2816x1024_S512x1024_1_0_0_1_n_n none a (shapeCast S2816x1024 wd shapeCasts_S2816x1024_S2816x1024) (constant (F := Ideal) S512x1024 .f32 0x00000000#32))))
      shapeCasts_S512x1024_S512x1024 (ix2 i j)
      = y (ix2 i j) + half * ∑ f, a (ix2 i f) * wd (ix2 f j) := by
  unfold half
  pointwise []

theorem thirdTile_at (y : FVec Ideal S512x1024 .f32) (wd : Vec Ideal S2816x1024 .bf16) (i : Fin 512) (j : Fin 1024) :
    thirdTile x wg wu y wd (ix2 i j) = y (ix2 i j)
      + half * ∑ f, act (fun k => x (ix2 i k)) (fun k f => wg (ix2 k f)) (fun k f => wu (ix2 k f)) f * wd (ix2 f j) := by
  refine (down_at y _ wd i j).trans (congrArg (fun z => y (ix2 i j) + half * z) (Finset.sum_congr rfl fun f _ => congrArg (· * _) ?_))
  exact concat_act x wg wu i f

end

end Cert.Proof.Ffn2
-- ==== Proof.Ffn2Run.lean ====
/- The kernel of the output projection and the second feed-forward block: what a grid point leaves in its carried buffers. -/
module

public import proofs.«01_k».proof.Proof.Ffn2Step
public import Idealize.ShloMosaic.Lib.Pipeline.ReadBack

@[expose] public section

set_option maxRecDepth 16384

noncomputable section

namespace Cert.Proof.Ffn2

open Idealize.ShloMosaic Idealize.ShloMosaic.TcCoe Idealize.SL.Sem
open Cert.Kernel2Ideal Cert.Kernel2Ideal.Gen

variable (m : (ℓ : Loc nD τ sig) → Buf (Elt Ideal) ℓ)

/-- The hidden state of a tile, from its two normalised attention tiles. -/
def stateTile (c : Dev nD) (t : Fin cfg0.N) (am sm : Vec Ideal S512x512 .bf16) : FVec Ideal S512x1024 .f32 :=
  thirdTile (normTile (iblk m c 0 t) am sm (iblk m c 7 t) (iblk m c 8 t) (iblk m c 9 t)) (iblk m c 10 t) (iblk m c 11 t)
    (midTile (iblk m c 0 t) am sm (iblk m c 7 t) (iblk m c 8 t)) (iblk m c 12 t)

theorem pay1_eq (a b : Vec Ideal S1x1x512x256 .f32) (g : Vec Ideal S1x512 .f32) :
    k0_pay1 (k0_pay6 a b) (k0_pay8 g) (k0_pay9 a b) = k0_pay20 (k0_pay6 a b) g := rfl

theorem pay2_eq (a b d e : Vec Ideal S1x1x512x128 .f32) (g : Vec Ideal S1x512 .f32) :
    k0_pay2 (k0_pay7 a b d e) g = k0_pay20 (k0_pay17 a b d e) g := rfl

theorem first_mla (c : Dev nD) (t : Fin cfg0.N) (h0 : t.val % 129 = 0) (h1 : t.val < 128) (h2 : ¬t.val % 129 = 128) :
    (outsAt0 m c t.val t.isLt).2.1 = k0_pay20 (mlaTile (iblk m c 1 t)) (iblk m c 5 t) := by
  rw [outsAt0_A m c t h0 h1 h2]
  frame_out
  rfl

theorem first_swa (c : Dev nD) (t : Fin cfg0.N) (h0 : t.val % 129 = 0) (h1 : t.val < 128) (h2 : ¬t.val % 129 = 128) :
    (outsAt0 m c t.val t.isLt).2.2.1 = k0_pay20 (swaTile (iblk m c 2 t)) (iblk m c 6 t) := by
  rw [outsAt0_A m c t h0 h1 h2]
  frame_out
  rfl

theorem first_state (c : Dev nD) (t : Fin cfg0.N) (h0 : t.val % 129 = 0) (h1 : t.val < 128) (h2 : ¬t.val % 129 = 128) :
    (outsAt0 m c t.val t.isLt).2.2.2 = stateTile m c t (k0_pay20 (mlaTile (iblk m c 3 t)) (iblk m c 5 t)) (k0_pay20 (swaTile (iblk m c 4 t)) (iblk m c 6 t)) := by
  rw [outsAt0_A m c t h0 h1 h2]
  frame_out
  simp (disch := decide) only [View.readCov_fill, pay1_eq, pay2_eq]
  unfold stateTile thirdTile gateUp
  obtain ⟨h0, h1, h2, h3, h4, h5, h6, h7, h8, h9, h10, h11, h12, h13, h14, h15, h16, h17, h18, h19, h20, h21⟩ := tiles_eq (iblk m c 10 t) (iblk m c 11 t)
  simp only [h0, h1, h2, h3, h4, h5, h6, h7, h8, h9, h10, h11, h12, h13, h14, h15, h16, h17, h18, h19, h20, h21]
  unfold normTile midTile
  rfl

theorem next_mla (c : Dev nD) (t : Fin cfg0.N) (h0 : ¬t.val % 129 = 0) (h1 : t.val < 128) (h2 : ¬t.val % 129 = 128) :
    (outsAt0 m c t.val t.isLt).2.1 = k0_pay20 (mlaTile (iblk m c 1 t)) (iblk m c 5 t) := by
  rw [outsAt0_B m c t h0 h1 h2]
  frame_out
  rfl

theorem next_swa (c : Dev nD) (t : Fin cfg0.N) (h0 : ¬t.val % 129 = 0) (h1 : t.val < 128) (h2 : ¬t.val % 129 = 128) :
    (outsAt0 m c t.val t.isLt).2.2.1 = k0_pay20 (swaTile (iblk m c 2 t)) (iblk m c 6 t) := by
  rw [outsAt0_B m c t h0 h1 h2]
  frame_out
  rfl

theorem next_state (c : Dev nD) (t : Fin cfg0.N) (h0 : ¬t.val % 129 = 0) (h1 : t.val < 128) (h2 : ¬t.val % 129 = 128) :
    (outsAt0 m c t.val t.isLt).2.2.2 = stateTile m c t (outsAt0 m c (t.val - 1) (by omega)).2.1 (outsAt0 m c (t.val - 1) (by omega)).2.2.1 := by
  rw [outsAt0_B m c t h0 h1 h2]
  frame_out
  simp only [read_unread_whole]
  unfold stateTile thirdTile gateUp
  obtain ⟨h0, h1, h2, h3, h4, h5, h6, h7, h8, h9, h10, h11, h12, h13, h14, h15, h16, h17, h18, h19, h20, h21⟩ := tiles_eq (iblk m c 10 t) (iblk m c 11 t)
  simp only [h0, h1, h2, h3, h4, h5, h6, h7, h8, h9, h10, h11, h12, h13, h14, h15, h16, h17, h18, h19, h20, h21]
  unfold normTile midTile
  rfl

theorem next_out (c : Dev nD) (t : Fin cfg0.N) (h0 : ¬t.val % 129 = 0) (h1 : t.val < 128) (h2 : ¬t.val % 129 = 128) :
    (outsAt0 m c t.val t.isLt).1 = k0_pay16 (outsAt0 m c (t.val - 1) (by omega)).2.2.2 (iblk m c 13 t) := by
  rw [outsAt0_B m c t h0 h1 h2]
  frame_out
  simp only [read_unread_whole]

theorem last_out (c : Dev nD) (t : Fin cfg0.N) (h0 : ¬t.val % 129 = 0) (h1 : ¬t.val < 128) (h2 : t.val % 129 = 128) :
    (outsAt0 m c t.val t.isLt).1 = k0_pay16 (outsAt0 m c (t.val - 1) (by omega)).2.2.2 (iblk m c 13 t) := by
  rw [outsAt0_C m c t h0 h1 h2]
  frame_out
  simp only [read_unread_whole]
  rfl

end Cert.Proof.Ffn2
-- ==== Proof.Ffn2Args.lean ====
/- The blocks the kernel of the output projection and the second feed-forward block is given, entry by entry, in terms of its arguments. -/
module

public import proofs.«01_k».proof.Proof.Ffn2Step
public import Idealize.ShloMosaic.Lib.Claim

@[expose] public section

set_option maxRecDepth 16384

noncomputable section

namespace Cert.Proof.Ffn2

open Idealize.ShloMosaic Idealize.ShloMosaic.TcCoe Idealize.SL.Sem
open Cert.Kernel2Ideal Cert.Kernel2Ideal.Gen

/-- The tile whose attention features a grid point normalises: the next, if there is one. -/
def nxt (t : ℕ) : ℕ := min (t + 1) 127

/-- The blocks of a grid point. -/
theorem idx_val : ∀ t : Fin cfg0.N, (win0_0.index t 0 = min (t : ℕ) 127 ∧ win0_0.index t 1 = 0)
    ∧ (win0_1.index t 0 = nxt t / 4 ∧ win0_1.index t 1 = nxt t % 4 ∧ win0_1.index t 2 = 0 ∧ win0_1.index t 3 = 0)
    ∧ (win0_2.index t 0 = nxt t / 4 ∧ win0_2.index t 1 = nxt t % 4 ∧ win0_2.index t 2 = 0 ∧ win0_2.index t 3 = 0)
    ∧ (win0_3.index t 0 = 0 ∧ win0_3.index t 1 = 0 ∧ win0_3.index t 2 = 0 ∧ win0_3.index t 3 = 0)
    ∧ (win0_4.index t 0 = 0 ∧ win0_4.index t 1 = 0 ∧ win0_4.index t 2 = 0 ∧ win0_4.index t 3 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = (t : ℕ) - 1 ∧ win0_14.index t 1 = 0) :=
  (by decide +kernel : ∀ t : Fin grid0.N, (win0_0.index t 0 = min (t : ℕ) 127 ∧ win0_0.index t 1 = 0)
    ∧ (win0_1.index t 0 = nxt t / 4 ∧ win0_1.index t 1 = nxt t % 4 ∧ win0_1.index t 2 = 0 ∧ win0_1.index t 3 = 0)
    ∧ (win0_2.index t 0 = nxt t / 4 ∧ win0_2.index t 1 = nxt t % 4 ∧ win0_2.index t 2 = 0 ∧ win0_2.index t 3 = 0)
    ∧ (win0_3.index t 0 = 0 ∧ win0_3.index t 1 = 0 ∧ win0_3.index t 2 = 0 ∧ win0_3.index t 3 = 0)
    ∧ (win0_4.index t 0 = 0 ∧ win0_4.index t 1 = 0 ∧ win0_4.index t 2 = 0 ∧ win0_4.index t 3 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = (t : ℕ) - 1 ∧ win0_14.index t 1 = 0))

variable (m : (ℓ : Loc nD τ sig) → Buf (Elt Ideal) ℓ)

/-- The rows of a token. -/
def hrow (c : Dev nD) (r : Fin 65536) (j : Fin 1024) : EReal :=
  (m ((c : Thread nD τ).loc main_arg0) : FVec Ideal S32x2048x1024 .f32) (ix3 ⟨r / 2048, by omega⟩ ⟨r % 2048, by omega⟩ j)
def arow (c : Dev nD) (r : Fin 65536) (k : Fin 512) : EReal :=
  (m ((c : Thread nD τ).loc main_arg1) : FVec Ideal S32x2048x512 .f32) (ix3 ⟨r / 2048, by omega⟩ ⟨r % 2048, by omega⟩ k)
def srow (c : Dev nD) (r : Fin 65536) (k : Fin 512) : EReal :=
  (m ((c : Thread nD τ).loc main_arg2) : FVec Ideal S32x2048x512 .f32) (ix3 ⟨r / 2048, by omega⟩ ⟨r % 2048, by omega⟩ k)
/-- The gains and the weights. -/
def ga (c : Dev nD) (k : Fin 512) : EReal := (m ((c : Thread nD τ).loc main_arg3) : FVec Ideal S1x512 .f32) (ix2 0 k)
def gs (c : Dev nD) (k : Fin 512) : EReal := (m ((c : Thread nD τ).loc main_arg4) : FVec Ideal S1x512 .f32) (ix2 0 k)
def wo (c : Dev nD) (k j : Fin 1024) : EReal := (m ((c : Thread nD τ).loc main_arg5) : FVec Ideal S1x1024x1024 .f32) (ix3 0 k j)
def g2 (c : Dev nD) (j : Fin 1024) : EReal := (m ((c : Thread nD τ).loc main_arg6) : FVec Ideal S1x1024 .f32) (ix2 0 j)
def wg (c : Dev nD) (k : Fin 1024) (f : Fin 2816) : EReal := (m ((c : Thread nD τ).loc main_arg7) : FVec Ideal S1x1024x2816 .f32) (ix3 0 k f)
def wu (c : Dev nD) (k : Fin 1024) (f : Fin 2816) : EReal := (m ((c : Thread nD τ).loc main_arg8) : FVec Ideal S1x1024x2816 .f32) (ix3 0 k f)
def wd (c : Dev nD) (f : Fin 2816) (j : Fin 1024) : EReal := (m ((c : Thread nD τ).loc main_arg9) : FVec Ideal S1x2816x1024 .f32) (ix3 0 f j)
def gf (c : Dev nD) (j : Fin 1024) : EReal := (m ((c : Thread nD τ).loc main_arg10) : FVec Ideal S1024 .f32) (ix1 j)

theorem v0_at (c : Dev nD) (r : Fin 65536) (j : Fin 1024) : (V m c main_v0 : FVec Ideal S65536x1024 .f32) (ix2 r j) = hrow m c r j := by
  unfold hrow
  entry_read
  pointwise
  try rfl

theorem v2_at (c : Dev nD) (b : Fin 32) (i : Fin 8) (k : Fin 512) (q : Fin 256) : (V m c main_v2 : FVec Ideal S32x8x512x256 .f32) (ix4 b i k q)
    = (m ((c : Thread nD τ).loc main_arg1) : FVec Ideal S32x2048x512 .f32) (ix3 b ⟨i * 256 + q, by omega⟩ k) := by
  entry_read
  pointwise
  try rfl

theorem v4_at (c : Dev nD) (b : Fin 32) (i : Fin 16) (k : Fin 512) (q : Fin 128) : (V m c main_v4 : FVec Ideal S32x16x512x128 .f32) (ix4 b i k q)
    = (m ((c : Thread nD τ).loc main_arg2) : FVec Ideal S32x2048x512 .f32) (ix3 b ⟨i * 128 + q, by omega⟩ k) := by
  entry_read
  pointwise
  try rfl

theorem v8_at (c : Dev nD) (k : Fin 512) : (V m c main_v8 : FVec Ideal S1x512 .f32) (ix2 0 k) = ga m c k := by
  unfold ga
  entry_read
  pointwise
  try rfl

theorem v10_at (c : Dev nD) (k : Fin 512) : (V m c main_v10 : FVec Ideal S1x512 .f32) (ix2 0 k) = gs m c k := by
  unfold gs
  entry_read
  pointwise
  try rfl

theorem v11_at (c : Dev nD) (k : Fin 512) (j : Fin 1024) : (V m c main_v11 : FVec Ideal S512x1024 .bf16) (ix2 k j) = wo m c ⟨k, by omega⟩ j := by
  unfold wo
  entry_read
  pointwise
  try rfl

theorem v12_at (c : Dev nD) (k : Fin 512) (j : Fin 1024) : (V m c main_v12 : FVec Ideal S512x1024 .bf16) (ix2 k j) = wo m c ⟨512 + k, by omega⟩ j := by
  unfold wo
  entry_read
  pointwise
  try rfl

theorem v14_at (c : Dev nD) (j : Fin 1024) : (V m c main_v14 : FVec Ideal S1x1024 .f32) (ix2 0 j) = g2 m c j := by
  unfold g2
  entry_read
  pointwise
  try rfl

theorem v16_at (c : Dev nD) (k : Fin 1024) (f : Fin 2816) : (V m c main_v16 : FVec Ideal S1024x2816 .bf16) (ix2 k f) = wg m c k f := by
  unfold wg
  entry_read
  pointwise
  try rfl

theorem v18_at (c : Dev nD) (k : Fin 1024) (f : Fin 2816) : (V m c main_v18 : FVec Ideal S1024x2816 .bf16) (ix2 k f) = wu m c k f := by
  unfold wu
  entry_read
  pointwise
  try rfl

theorem v20_at (c : Dev nD) (f : Fin 2816) (j : Fin 1024) : (V m c main_v20 : FVec Ideal S2816x1024 .bf16) (ix2 f j) = wd m c f j := by
  unfold wd
  entry_read
  pointwise
  try rfl

theorem v21_at (c : Dev nD) (j : Fin 1024) : (V m c main_v21 : FVec Ideal S1x1024 .f32) (ix2 0 j) = gf m c j := by
  unfold gf
  entry_read
  pointwise
  try rfl

theorem blk5_at (c : Dev nD) (t : Fin cfg0.N) (k : Fin 512) : (iblk m c 5 t : Vec Ideal S1x512 .f32) (ix2 0 k) = ga m c k := by
  rw [← v8_at]
  blk_simp [iblk, idx_val t]
  refine congrArg (V m c _) ?_
  blk_ext [idx_val t]

theorem blk6_at (c : Dev nD) (t : Fin cfg0.N) (k : Fin 512) : (iblk m c 6 t : Vec Ideal S1x512 .f32) (ix2 0 k) = gs m c k := by
  rw [← v10_at]
  blk_simp [iblk, idx_val t]
  refine congrArg (V m c _) ?_
  blk_ext [idx_val t]

theorem blk7_at (c : Dev nD) (t : Fin cfg0.N) (k : Fin 512) (j : Fin 1024) : (iblk m c 7 t : Vec Ideal S512x1024 .bf16) (ix2 k j) = wo m c ⟨k, by omega⟩ j := by
  rw [← v11_at]
  blk_simp [iblk, idx_val t]
  refine congrArg (V m c _) ?_
  blk_ext [idx_val t]

theorem blk8_at (c : Dev nD) (t : Fin cfg0.N) (k : Fin 512) (j : Fin 1024) : (iblk m c 8 t : Vec Ideal S512x1024 .bf16) (ix2 k j) = wo m c ⟨512 + k, by omega⟩ j := by
  rw [← v12_at]
  blk_simp [iblk, idx_val t]
  refine congrArg (V m c _) ?_
  blk_ext [idx_val t]

theorem blk9_at (c : Dev nD) (t : Fin cfg0.N) (j : Fin 1024) : (iblk m c 9 t : Vec Ideal S1x1024 .f32) (ix2 0 j) = g2 m c j := by
  rw [← v14_at]
  blk_simp [iblk, idx_val t]
  refine congrArg (V m c _) ?_
  blk_ext [idx_val t]

theorem blk10_at (c : Dev nD) (t : Fin cfg0.N) (k : Fin 1024) (f : Fin 2816) : (iblk m c 10 t : Vec Ideal S1024x2816 .bf16) (ix2 k f) = wg m c k f := by
  rw [← v16_at]
  blk_simp [iblk, idx_val t]
  refine congrArg (V m c _) ?_
  blk_ext [idx_val t]

theorem blk11_at (c : Dev nD) (t : Fin cfg0.N) (k : Fin 1024) (f : Fin 2816) : (iblk m c 11 t : Vec Ideal S1024x2816 .bf16) (ix2 k f) = wu m c k f := by
  rw [← v18_at]
  blk_simp [iblk, idx_val t]
  refine congrArg (V m c _) ?_
  blk_ext [idx_val t]

theorem blk12_at (c : Dev nD) (t : Fin cfg0.N) (f : Fin 2816) (j : Fin 1024) : (iblk m c 12 t : Vec Ideal S2816x1024 .bf16) (ix2 f j) = wd m c f j := by
  rw [← v20_at]
  blk_simp [iblk, idx_val t]
  refine congrArg (V m c _) ?_
  blk_ext [idx_val t]

theorem blk13_at (c : Dev nD) (t : Fin cfg0.N) (j : Fin 1024) : (iblk m c 13 t : Vec Ideal S1x1024 .f32) (ix2 0 j) = gf m c j := by
  rw [← v21_at]
  blk_simp [iblk, idx_val t]
  refine congrArg (V m c _) ?_
  blk_ext [idx_val t]

theorem blk0_at (c : Dev nD) (t : Fin cfg0.N) (ht : t.val < 128) (i : Fin 512) (j : Fin 1024) :
    (iblk m c 0 t : Vec Ideal S512x1024 .f32) (ix2 i j) = hrow m c ⟨512 * t + i, by omega⟩ j := by
  rw [← v0_at]
  blk_simp [iblk, idx_val t]
  refine congrArg (V m c _) ?_
  blk_ext [idx_val t]

/-- The attention features of the next tile, and of the first. -/
theorem nextMla_at (c : Dev nD) (t : Fin cfg0.N) (i k : Fin 512) :
    mlaTile (iblk m c 1 t) (ix2 i k) = arow m c ⟨512 * nxt t + i, by unfold nxt; omega⟩ k := by
  have hn : nxt t < 128 := by unfold nxt; omega
  have e : (iblk m c 1 t : Vec Ideal S1x2x512x256 .f32) (ix4 0 ⟨i / 256, by omega⟩ k ⟨i % 256, by omega⟩) = (V m c main_v2 : FVec Ideal S32x8x512x256 .f32)
      (ix4 ⟨nxt t / 4, by omega⟩ ⟨nxt t % 4 * 2 + i / 256, by omega⟩ k ⟨i % 256, by omega⟩) := by
    blk_simp [iblk, idx_val t]
    refine congrArg (V m c _) ?_
    blk_ext [idx_val t]
  rw [mlaTile_at, e, v2_at]
  unfold arow
  congr 2 <;> apply Fin.ext <;> dsimp only <;> omega

theorem nextSwa_at (c : Dev nD) (t : Fin cfg0.N) (i k : Fin 512) :
    swaTile (iblk m c 2 t) (ix2 i k) = srow m c ⟨512 * nxt t + i, by unfold nxt; omega⟩ k := by
  have hn : nxt t < 128 := by unfold nxt; omega
  have e : (iblk m c 2 t : Vec Ideal S1x4x512x128 .f32) (ix4 0 ⟨i / 128, by omega⟩ k ⟨i % 128, by omega⟩) = (V m c main_v4 : FVec Ideal S32x16x512x128 .f32)
      (ix4 ⟨nxt t / 4, by omega⟩ ⟨nxt t % 4 * 4 + i / 128, by omega⟩ k ⟨i % 128, by omega⟩) := by
    blk_simp [iblk, idx_val t]
    refine congrArg (V m c _) ?_
    blk_ext [idx_val t]
  rw [swaTile_at, e, v4_at]
  unfold srow
  congr 2 <;> apply Fin.ext <;> dsimp only <;> omega

theorem firstMla_at (c : Dev nD) (t : Fin cfg0.N) (i k : Fin 512) :
    mlaTile (iblk m c 3 t) (ix2 i k) = arow m c ⟨i, by omega⟩ k := by
  have e : (iblk m c 3 t : Vec Ideal S1x2x512x256 .f32) (ix4 0 ⟨i / 256, by omega⟩ k ⟨i % 256, by omega⟩) = (V m c main_v2 : FVec Ideal S32x8x512x256 .f32)
      (ix4 0 ⟨i / 256, by omega⟩ k ⟨i % 256, by omega⟩) := by
    blk_simp [iblk, idx_val t]
    refine congrArg (V m c _) ?_
    blk_ext [idx_val t]
  rw [mlaTile_at, e, v2_at]
  unfold arow
  congr 2 <;> apply Fin.ext <;> dsimp only <;> omega

theorem firstSwa_at (c : Dev nD) (t : Fin cfg0.N) (i k : Fin 512) :
    swaTile (iblk m c 4 t) (ix2 i k) = srow m c ⟨i, by omega⟩ k := by
  have e : (iblk m c 4 t : Vec Ideal S1x4x512x128 .f32) (ix4 0 ⟨i / 128, by omega⟩ k ⟨i % 128, by omega⟩) = (V m c main_v4 : FVec Ideal S32x16x512x128 .f32)
      (ix4 0 ⟨i / 128, by omega⟩ k ⟨i % 128, by omega⟩) := by
    blk_simp [iblk, idx_val t]
    refine congrArg (V m c _) ?_
    blk_ext [idx_val t]
  rw [swaTile_at, e, v4_at]
  unfold srow
  congr 2 <;> apply Fin.ext <;> dsimp only <;> omega

end Cert.Proof.Ffn2
-- ==== Proof.Ffn2Ref.lean ====
/- The reference of the output projection and the second feed-forward block, token by token. -/
module

public import proofs.«01_k».proof.Proof.Gen.Reference2Ideal.Read
public import proofs.«01_k».proof.Proof.Ffn2Row
public import Idealize.ShloMosaic.Lib.Claim
public import Idealize.ShloMosaic.Lib.Pointwise

@[expose] public section

set_option maxRecDepth 16384

noncomputable section

namespace Cert.Proof.Ffn2

open Idealize.ShloMosaic Idealize.ShloMosaic.TcCoe Idealize.SL.Sem
open Cert.Reference2Ideal Cert.Reference2Ideal.Read

variable (x0 : FVec Ideal S32x2048x1024 .f32) (x1 x2 : FVec Ideal S32x2048x512 .f32) (x3 x4 : FVec Ideal S1x512 .f32) (x5 : FVec Ideal S1x1024x1024 .f32)
  (x6 : FVec Ideal S1x1024 .f32) (x7 x8 : FVec Ideal S1x1024x2816 .f32) (x9 : FVec Ideal S1x2816x1024 .f32) (x10 : FVec Ideal S1024 .f32)

theorem v13_at (b : Fin 32) (n : Fin 2048) (k : Fin 512) :
    val_main_v13 (F := Ideal) x1 x3 (ix3 b n k) = rms w512 (fun k => x1 (ix3 b n k)) (fun k => x3 (ix2 0 k)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem v27_at (b : Fin 32) (n : Fin 2048) (k : Fin 512) :
    val_main_v27 (F := Ideal) x2 x4 (ix3 b n k) = rms w512 (fun k => x2 (ix3 b n k)) (fun k => x4 (ix2 0 k)) k := by
  pointwise [val_main_v14, val_main_v15, val_main_v16, val_main_v17, val_main_v18, val_main_v19, val_main_v20, val_main_v21, val_main_v22, val_main_v23, val_main_v24, val_main_v25, val_main_v26, val_main_v27, val_main_cst_2, val_main_cst_3, val_main_cst_4]
  rfl

theorem v28_at (b : Fin 32) (n : Fin 2048) (k : Fin 1024) : val_main_v28 (F := Ideal) x1 x2 x3 x4 (ix3 b n k)
    = if h : (k : ℕ) < 512 then val_main_v13 (F := Ideal) x1 x3 (ix3 b n ⟨k, h⟩) else val_main_v27 (F := Ideal) x2 x4 (ix3 b n ⟨k - 512, by omega⟩) := by
  unfold val_main_v28
  generalize val_main_v13 (F := Ideal) x1 x3 = y
  generalize val_main_v27 (F := Ideal) x2 x4 = z
  pointwise []

theorem v31_at (b : Fin 32) (n : Fin 2048) (j : Fin 1024) : val_main_v31 (F := Ideal) x0 x1 x2 x3 x4 x5 (ix3 b n j)
    = mid (fun j => x0 (ix3 b n j)) (rms w512 (fun k => x1 (ix3 b n k)) (fun k => x3 (ix2 0 k))) (rms w512 (fun k => x2 (ix3 b n k)) (fun k => x4 (ix2 0 k)))
        (fun k j => x5 (ix3 0 ⟨k, by omega⟩ j)) (fun k j => x5 (ix3 0 ⟨512 + k, by omega⟩ j)) j := by
  have e : val_main_v31 (F := Ideal) x0 x1 x2 x3 x4 x5 (ix3 b n j) = x0 (ix3 b n j) + ∑ k : Fin (512 + 512), val_main_v28 (F := Ideal) x1 x2 x3 x4 (ix3 b n k) * x5 (ix3 0 k j) := by
    unfold val_main_v31 val_main_v30 val_main_v29
    generalize val_main_v28 (F := Ideal) x1 x2 x3 x4 = y
    pointwise []
  rw [e, Fin.sum_univ_add, ← add_assoc]
  unfold mid
  congr 1
  · refine congrArg _ (Finset.sum_congr rfl fun k _ => ?_)
    rw [v28_at, dif_pos (by exact k.isLt), ← v13_at]
    rfl
  · refine Finset.sum_congr rfl fun k _ => ?_
    rw [v28_at, dif_neg (by simp [Fin.natAdd]), ← v27_at]
    congr 3
    apply Fin.ext
    simp [Fin.natAdd]

theorem v45_at (b : Fin 32) (n : Fin 2048) (j : Fin 1024) : val_main_v45 (F := Ideal) x0 x1 x2 x3 x4 x5 x6 (ix3 b n j)
    = rms w1024 (fun j => val_main_v31 (F := Ideal) x0 x1 x2 x3 x4 x5 (ix3 b n j)) (fun j => x6 (ix2 0 j)) j := by
  unfold val_main_v45 val_main_v44 val_main_v43 val_main_v42 val_main_v41 val_main_v40 val_main_v39 val_main_v38 val_main_v37 val_main_v36 val_main_v35 val_main_v34 val_main_v33 val_main_v32
  generalize val_main_v31 (F := Ideal) x0 x1 x2 x3 x4 x5 = y
  pointwise [val_main_cst_5, val_main_cst_6, val_main_cst_7]
  rfl

theorem logistic_eq (y : EReal) : Ideal.div (Ideal.ofBits .f32 0x3F800000#32) (Ideal.ofBits .f32 0x3F800000#32 + Ideal.exp (-y)) = Ideal.logistic y := by
  have e : Ideal.ofBits .f32 0x3F800000#32 = 1 := by
    simp [Ideal.ofBits, Ideal.ieee]
    rw [← EReal.coe_mul]
    norm_num
  rw [e]
  rfl

theorem v49_at (b : Fin 32) (n : Fin 2048) (f : Fin 2816) : val_main_v49 (F := Ideal) x0 x1 x2 x3 x4 x5 x6 x7 (ix3 b n f)
    = ∑ k, val_main_v45 (F := Ideal) x0 x1 x2 x3 x4 x5 x6 (ix3 b n k) * x7 (ix3 0 k f) := by
  unfold val_main_v49 val_main_v46
  generalize val_main_v45 (F := Ideal) x0 x1 x2 x3 x4 x5 x6 = y
  pointwise []
  try rfl

theorem v51_at (b : Fin 32) (n : Fin 2048) (f : Fin 2816) : val_main_v51 (F := Ideal) x0 x1 x2 x3 x4 x5 x6 x8 (ix3 b n f)
    = ∑ k, val_main_v45 (F := Ideal) x0 x1 x2 x3 x4 x5 x6 (ix3 b n k) * x8 (ix3 0 k f) := by
  unfold val_main_v51 val_main_v47
  generalize val_main_v45 (F := Ideal) x0 x1 x2 x3 x4 x5 x6 = y
  pointwise []
  try rfl

theorem v52_at (b : Fin 32) (n : Fin 2048) (f : Fin 2816) : val_main_v52 (F := Ideal) x0 x1 x2 x3 x4 x5 x6 x7 x8 (ix3 b n f)
    = act (fun k => val_main_v45 (F := Ideal) x0 x1 x2 x3 x4 x5 x6 (ix3 b n k)) (fun k f => x7 (ix3 0 k f)) (fun k f => x8 (ix3 0 k f)) f := by
  unfold act
  rw [← v49_at, ← v51_at, ← logistic_eq]
  unfold val_main_v52 val_main_v50 val_main_call0_v5 val_main_call0_v4 val_main_call0_v3 val_main_call0_v2 val_main_call0_v1 val_main_call0_v0
  generalize val_main_v49 (F := Ideal) x0 x1 x2 x3 x4 x5 x6 x7 = y
  generalize val_main_v51 (F := Ideal) x0 x1 x2 x3 x4 x5 x6 x8 = z
  pointwise [val_main_call0_cst, val_main_call0_cst_0]
  try rfl

theorem v56_at (b : Fin 32) (n : Fin 2048) (j : Fin 1024) : val_main_v56 (F := Ideal) x0 x1 x2 x3 x4 x5 x6 x7 x8 x9 (ix3 b n j)
    = third (fun j => val_main_v31 (F := Ideal) x0 x1 x2 x3 x4 x5 (ix3 b n j)) (fun j => x6 (ix2 0 j)) (fun k f => x7 (ix3 0 k f)) (fun k f => x8 (ix3 0 k f))
        (fun f j => x9 (ix3 0 f j)) j := by
  have e : val_main_v56 (F := Ideal) x0 x1 x2 x3 x4 x5 x6 x7 x8 x9 (ix3 b n j) = val_main_v31 (F := Ideal) x0 x1 x2 x3 x4 x5 (ix3 b n j)
      + half * ∑ f, val_main_v52 (F := Ideal) x0 x1 x2 x3 x4 x5 x6 x7 x8 (ix3 b n f) * x9 (ix3 0 f j) := by
    unfold val_main_v56 val_main_v55 val_main_v54 val_main_v53 val_main_v48 half
    generalize val_main_v52 (F := Ideal) x0 x1 x2 x3 x4 x5 x6 x7 x8 = y
    generalize val_main_v31 (F := Ideal) x0 x1 x2 x3 x4 x5 = z
    pointwise [val_main_cst_8]
    try rfl
  rw [e]
  unfold third
  have h : rms w1024 (fun j => val_main_v31 (F := Ideal) x0 x1 x2 x3 x4 x5 (ix3 b n j)) (fun j => x6 (ix2 0 j))
      = fun k => val_main_v45 (F := Ideal) x0 x1 x2 x3 x4 x5 x6 (ix3 b n k) := funext fun k => (v45_at x0 x1 x2 x3 x4 x5 x6 b n k).symm
  rw [h]
  exact congrArg (fun z => _ + half * z) (Finset.sum_congr rfl fun f _ => congrArg (· * _) (v52_at x0 x1 x2 x3 x4 x5 x6 x7 x8 b n f))

theorem v69_at (b : Fin 32) (n : Fin 2048) (j : Fin 1024) : val_main_v69 (F := Ideal) x0 x1 x2 x3 x4 x5 x6 x7 x8 x9 x10 (ix3 b n j)
    = rms w1024 (fun j => val_main_v56 (F := Ideal) x0 x1 x2 x3 x4 x5 x6 x7 x8 x9 (ix3 b n j)) (fun j => x10 (ix1 j)) j := by
  unfold val_main_v69 val_main_v68 val_main_v67 val_main_v66 val_main_v65 val_main_v64 val_main_v63 val_main_v62 val_main_v61 val_main_v60 val_main_v59 val_main_v58 val_main_v57
  generalize val_main_v56 (F := Ideal) x0 x1 x2 x3 x4 x5 x6 x7 x8 x9 = y
  pointwise [val_main_cst_9, val_main_cst_10, val_main_cst_11]
  rfl

/-- The reference's result: a token's row. -/
theorem v70_at (r : Fin 65536) (j : Fin 1024) : val_main_v70 (F := Ideal) x0 x1 x2 x3 x4 x5 x6 x7 x8 x9 x10 (ix2 r j)
    = val_main_v69 (F := Ideal) x0 x1 x2 x3 x4 x5 x6 x7 x8 x9 x10 (ix3 ⟨r / 2048, by omega⟩ ⟨r % 2048, by omega⟩ j) := by
  unfold val_main_v70
  generalize val_main_v69 (F := Ideal) x0 x1 x2 x3 x4 x5 x6 x7 x8 x9 x10 = y
  pointwise []
  try rfl

end Cert.Proof.Ffn2
-- ==== Proof.Ffn2Final.lean ====
/- The kernel of the output projection and the second feed-forward block leaves the reference's result. -/
module

public import proofs.«01_k».proof.Proof.Ffn2Run
public import proofs.«01_k».proof.Proof.Ffn2Args
public import proofs.«01_k».proof.Proof.Ffn2Ref
public import Idealize.ShloMosaic.Lib.Pipeline.Value

@[expose] public section

set_option maxRecDepth 16384

noncomputable section

namespace Cert.Proof.Ffn2

open Idealize.ShloMosaic Idealize.ShloMosaic.TcCoe Idealize.SL.Sem
open Cert.Kernel2Ideal Cert.Kernel2Ideal.Gen

variable (m : (ℓ : Loc nD τ sig) → Buf (Elt Ideal) ℓ)

/-- A token's hidden state after the output projection, and after the feed-forward block. -/
def midRow (c : Dev nD) (r : Fin 65536) : Fin 1024 → EReal :=
  mid (hrow m c r) (rms w512 (arow m c r) (ga m c)) (rms w512 (srow m c r) (gs m c)) (fun k j => wo m c ⟨k, by omega⟩ j) (fun k j => wo m c ⟨512 + k, by omega⟩ j)
def stateRow (c : Dev nD) (r : Fin 65536) : Fin 1024 → EReal :=
  third (midRow m c r) (g2 m c) (wg m c) (wu m c) (wd m c)

theorem stateTile_at (c : Dev nD) (t : Fin cfg0.N) (ht : t.val < 128) (am sm : Vec Ideal S512x512 .bf16)
    (ha : ∀ i k : Fin 512, am (ix2 i k) = rms w512 (arow m c ⟨512 * t + i, by omega⟩) (ga m c) k)
    (hs : ∀ i k : Fin 512, sm (ix2 i k) = rms w512 (srow m c ⟨512 * t + i, by omega⟩) (gs m c) k) (i : Fin 512) (j : Fin 1024) :
    stateTile m c t am sm (ix2 i j) = stateRow m c ⟨512 * t + i, by omega⟩ j := by
  have hm : ∀ j, midTile (iblk m c 0 t) am sm (iblk m c 7 t) (iblk m c 8 t) (ix2 i j) = midRow m c ⟨512 * t + i, by omega⟩ j := fun j => by
    rw [midTile_at]
    simp only [ha, hs, blk0_at m c t ht, blk7_at, blk8_at]
    rfl
  unfold stateTile
  rw [thirdTile_at]
  simp only [normTile_at, hm, blk9_at, blk10_at, blk11_at, blk12_at]
  rfl

theorem tile_mla (c : Dev nD) (n : ℕ) (hn : n < 128) (i k : Fin 512) :
    (outsAt0 m c n (hn.trans (by decide))).2.1 (ix2 i k) = rms w512 (arow m c ⟨512 * nxt n + i, by unfold nxt; omega⟩) (ga m c) k := by
  have e : (outsAt0 m c n (hn.trans (by decide))).2.1 = k0_pay20 (mlaTile (iblk m c 1 ⟨n, hn.trans (by decide)⟩)) (iblk m c 5 ⟨n, hn.trans (by decide)⟩) := by
    by_cases h : n % 129 = 0
    · exact first_mla m c ⟨n, hn.trans (by decide)⟩ h hn (by dsimp only; omega)
    · exact next_mla m c ⟨n, hn.trans (by decide)⟩ h hn (by dsimp only; omega)
  rw [e, norm_at]
  simp only [nextMla_at, blk5_at]

theorem tile_swa (c : Dev nD) (n : ℕ) (hn : n < 128) (i k : Fin 512) :
    (outsAt0 m c n (hn.trans (by decide))).2.2.1 (ix2 i k) = rms w512 (srow m c ⟨512 * nxt n + i, by unfold nxt; omega⟩) (gs m c) k := by
  have e : (outsAt0 m c n (hn.trans (by decide))).2.2.1 = k0_pay20 (swaTile (iblk m c 2 ⟨n, hn.trans (by decide)⟩)) (iblk m c 6 ⟨n, hn.trans (by decide)⟩) := by
    by_cases h : n % 129 = 0
    · exact first_swa m c ⟨n, hn.trans (by decide)⟩ h hn (by dsimp only; omega)
    · exact next_swa m c ⟨n, hn.trans (by decide)⟩ h hn (by dsimp only; omega)
  rw [e, norm_at]
  simp only [nextSwa_at, blk6_at]

theorem tile_state (c : Dev nD) (n : ℕ) (hn : n < 128) (i : Fin 512) (j : Fin 1024) :
    (outsAt0 m c n (hn.trans (by decide))).2.2.2 (ix2 i j) = stateRow m c ⟨512 * n + i, by omega⟩ j := by
  by_cases h : n % 129 = 0
  · have h0 : n = 0 := by omega
    subst h0
    rw [show (outsAt0 m c 0 (hn.trans (by decide))).2.2.2 = _ from first_state m c ⟨0, hn.trans (by decide)⟩ h hn (by dsimp only; omega)]
    refine stateTile_at m c ⟨0, hn.trans (by decide)⟩ hn _ _ (fun i k => ?_) (fun i k => ?_) i j
    · rw [norm_at]
      simp only [firstMla_at, blk5_at]
      simp only [Nat.mul_zero, Nat.zero_add]
    · rw [norm_at]
      simp only [firstSwa_at, blk6_at]
      simp only [Nat.mul_zero, Nat.zero_add]
  · have hx : nxt (n - 1) = n := by unfold nxt; omega
    rw [show (outsAt0 m c n (hn.trans (by decide))).2.2.2 = _ from next_state m c ⟨n, hn.trans (by decide)⟩ h hn (by dsimp only; omega)]
    refine stateTile_at m c ⟨n, hn.trans (by decide)⟩ hn _ _ (fun i k => ?_) (fun i k => ?_) i j
    · refine (tile_mla m c (n - 1) (by omega) i k).trans ?_
      simp only [hx]
    · refine (tile_swa m c (n - 1) (by omega) i k).trans ?_
      simp only [hx]

/-- A point after the first writes the result's tile before it. -/
theorem tile_out (c : Dev nD) (t : Fin cfg0.N) (ht : t.val ≠ 0) (i : Fin 512) (j : Fin 1024) :
    (outsAt0 m c t.val t.isLt).1 (ix2 i j) = rms w1024 (stateRow m c ⟨512 * (t - 1) + i, by have : t.val < 129 := t.isLt; omega⟩) (gf m c) j := by
  have hN : t.val < 129 := t.isLt
  have e : (outsAt0 m c t.val t.isLt).1 = k0_pay16 (outsAt0 m c (t.val - 1) (by omega)).2.2.2 (iblk m c 13 t) := by
    by_cases h : t.val < 128
    · exact next_out m c t (by omega) h (by omega)
    · exact last_out m c t (by omega) h (by omega)
  rw [e, out_at]
  simp only [tile_state m c (t.val - 1) (by omega), blk13_at]

/-- The reference's result, read at a token. -/
theorem reference_at (c : Dev nD) (r : Fin 65536) (j : Fin 1024) :
    Cert.Reference2Ideal.Read.val_main_v70 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (ix2 r j) = rms w1024 (stateRow m c r) (gf m c) j := by
  rw [v70_at, v69_at]
  simp only [v56_at, v31_at]
  rfl

/-- A block's write-back is due only after the first point. -/
theorem flush_ne : ∀ t : Fin cfg0.N, (cfg0.win 14).flush t = true → t.val ≠ 0 :=
  (by decide +kernel : ∀ t : Fin grid0.N, win0_14.flush t = true → t.val ≠ 0)

/-- The array the launch leaves is the reference's result. -/
theorem ffn2_final (c : Dev nD) : (dats m 0 c).arrAt 14 cfg0.N
    = Cert.Reference2Ideal.Read.val_main_v70 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) := by
  refine (dats m 0 c).arrAt_eq_of_covers 14 _ (by decide +kernel) fun t hf y => ?_
  have ht := flush_ne t hf
  have hN : t.val < 129 := t.isLt
  blk_simp
  rw [after0_14]
  have ey : y = ix2 (y 0) (y 1) := funext fun a => by fin_cases a <;> rfl
  have eb : (win0_14.blk t).view.emb y = ix2 ⟨512 * (t - 1) + y 0, by have : (y 0).val < 512 := (y 0).isLt; omega⟩ (y 1) := by
    blk_ext [idx_val t]
  rw [eb]
  exact (congrArg (outsAt0 m c t.val t.isLt).1 ey).trans ((tile_out m c t ht (y 0) (y 1)).trans (reference_at m c _ _).symm)

end Cert.Proof.Ffn2
-- ==== Proof.Ffn1Same.lean ====
/- The first call's two programs, the kernel and its idealization, are the same program: nothing was
   rewritten. So a fact of the one, at any values, is a fact of the other. -/
module

public import proofs.«01_k».proof.Defs
public import proofs.«01_k».proof.Proof.Gen.Kernel3
public import proofs.«01_k».proof.Proof.Gen.Kernel3Ideal

@[expose] public section

set_option maxRecDepth 100000
set_option maxHeartbeats 4000000

noncomputable section

namespace Cert.Ffn1

open Idealize.ShloMosaic Idealize.ShloMosaic.TcCoe Idealize.SL.Sem

variable {F : FTy → Type} [FloatOps F]

/-- The two kernels' bodies agree at every grid point. -/
theorem bodies_same : Cert.Kernel3.defs₀ (F := F) = Cert.Kernel3Ideal.defs₀ := by
  unfold Cert.Kernel3.defs₀ Cert.Kernel3Ideal.defs₀
  refine congrArg Defs.onTc ?_
  funext l a
  match l, a with
  | 0, (t, s) => rfl

/-- The two programs call the same bodies. -/
theorem defs_same : Cert.Kernel3.defs (F := F) = Cert.Kernel3Ideal.defs := by
  unfold Cert.Kernel3.defs Cert.Kernel3Ideal.defs
  exact congrArg (Pipeline.defs (Cert.Kernel3Ideal.pcfgs (F := F))) bodies_same

/-- The two host programs are the same. -/
theorem main_same : Cert.Kernel3.main (F := F) = Cert.Kernel3Ideal.main := rfl

end Cert.Ffn1
-- ==== Proof.Ffn1Step.lean ====
/- The kernel of the first feed-forward block: what each of its computed tiles holds, row by row. -/
module

public import proofs.«01_k».proof.Proof.Gen.Kernel3Ideal.Skeleton
public import Idealize.ShloMosaic.Lib.Pipeline.ValueKit
public import proofs.«01_k».proof.Proof.Ffn2Row

@[expose] public section

set_option maxRecDepth 16384

noncomputable section

namespace Cert.Proof.Ffn1

open Idealize.ShloMosaic Idealize.ShloMosaic.TcCoe Idealize.SL.Sem
open Cert.Kernel3Ideal Cert.Kernel3Ideal.Gen
open Cert.Proof.Ffn2 (eps w1024 half rms act third)

/-- A normalised tile of tokens. -/
theorem norm_at (x : Vec Ideal S512x1024 .f32) (g : Vec Ideal S1x1024 .f32) (i : Fin 512) (j : Fin 1024) :
    k0_pay87 x g (ix2 i j) = rms w1024 (fun k => x (ix2 i k)) (fun k => g (ix2 0 k)) j := by
  pointwise [k0_pay87]
  rfl

theorem first_eq (x : Vec Ideal S512x1024 .f32) (g : Vec Ideal S1x1024 .f32) : k0_pay1 x g = k0_pay87 x g := rfl

/-- The hidden state of a tile: its tokens, and half the feed-forward block's result of its normalised rows. -/
def stateTile (x : Vec Ideal S512x1024 .f32) (xn : Vec Ideal S512x1024 .bf16) (wg wu : Vec Ideal S1024x2816 .bf16) (wd : Vec Ideal S2816x1024 .bf16) :
    FVec Ideal S512x1024 .f32 :=
  k0_pay85 (k0_pay83 (k0_pay9 xn wg) (k0_pay11 xn wu)) (k0_pay84 x) wd

theorem gate_at (xn : Vec Ideal S512x1024 .bf16) (w : Vec Ideal S1024x2816 .bf16) (i : Fin 512) (f : Fin 2816) :
    k0_pay9 xn w (ix2 i f) = ∑ k, xn (ix2 i k) * w (ix2 k f) := by
  pointwise [k0_pay9]
  try rfl

theorem up_at (xn : Vec Ideal S512x1024 .bf16) (w : Vec Ideal S1024x2816 .bf16) (i : Fin 512) (f : Fin 2816) :
    k0_pay11 xn w (ix2 i f) = ∑ k, xn (ix2 i k) * w (ix2 k f) := by
  pointwise [k0_pay11]
  try rfl

theorem act_at (xn : Vec Ideal S512x1024 .bf16) (wg wu : Vec Ideal S1024x2816 .bf16) (i : Fin 512) (f : Fin 2816) :
    k0_pay83 (k0_pay9 xn wg) (k0_pay11 xn wu) (ix2 i f) = act (fun k => xn (ix2 i k)) (fun k f => wg (ix2 k f)) (fun k f => wu (ix2 k f)) f := by
  unfold act
  rw [← gate_at, ← up_at]
  generalize k0_pay9 xn wg = y
  generalize k0_pay11 xn wu = z
  pointwise [k0_pay83]
  try rfl

theorem stateTile_at (x : Vec Ideal S512x1024 .f32) (xn : Vec Ideal S512x1024 .bf16) (wg wu : Vec Ideal S1024x2816 .bf16) (wd : Vec Ideal S2816x1024 .bf16)
    (i : Fin 512) (j : Fin 1024) : stateTile x xn wg wu wd (ix2 i j)
    = x (ix2 i j) + half * ∑ f, act (fun k => xn (ix2 i k)) (fun k f => wg (ix2 k f)) (fun k f => wu (ix2 k f)) f * wd (ix2 f j) := by
  simp only [← act_at]
  unfold stateTile half
  generalize k0_pay83 (k0_pay9 xn wg) (k0_pay11 xn wu) = y
  pointwise [k0_pay85, k0_pay84]
  try rfl

end Cert.Proof.Ffn1
-- ==== Proof.Ffn1Runs.lean ====
/- What the runs of the first call's body share: its branch conditions, where its windows are idle, and its staging buffers. -/
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 129 = 0 :=
  (fun t => by
    have ht : t.val < 129 := Nat.lt_of_lt_of_eq t.isLt N_0
    have e0 : (grid0.coords t 0).val = t.val / 1 % 129 := Pipeline.Grid.coords_val t 0 (by decide) rfl
    simp only [cond0_0, e0]
    word_cmp
   : ∀ t : Fin grid0.N, cond0_0 (grid0.coords t) ↔ t.val % 129 = 0)

/-- The condition of the body's `scf.if` 1. -/
abbrev cond0_1 (i : grid0.Coords) : Prop := k0_cond2 i = 1#1
/-- It holds at the points before point 128 — decided over the grid. -/
theorem hcond0_1 : ∀ t : Fin cfg0.N, cond0_1 (grid0.coords t) ↔ t.val < 128 :=
  (by decide +kernel : ∀ t : Fin grid0.N, cond0_1 (grid0.coords t) ↔ t.val < 128)

/-- The condition of the body's `scf.if` 2. -/
abbrev cond0_2 (i : grid0.Coords) : Prop := k0_cond3 i = 1#1
/-- It holds at the last point only — by arithmetic of the point. -/
theorem hcond0_2 : ∀ t : Fin cfg0.N, cond0_2 (grid0.coords t) ↔ t.val % 129 = 128 :=
  (fun t => by
    have ht : t.val < 129 := Nat.lt_of_lt_of_eq t.isLt N_0
    have e0 : (grid0.coords t 0).val = t.val / 1 % 129 := Pipeline.Grid.coords_val t 0 (by decide) rfl
    simp only [cond0_2, k0_cond3, e0]
    word_cmp
   : ∀ t : Fin grid0.N, cond0_2 (grid0.coords t) ↔ t.val % 129 = 128)

/-! ## Where the windows are idle (the printed configuration's table `Cfg.idle`) -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := fun _ => rfl
/-- Window 8 is never idle. -/
theorem liveAt0_8 : ∀ t : Fin cfg0.N, cfg0.idle 8 (grid0.coords t) = false := fun _ => rfl
/-- Window 9 is never idle. -/
theorem liveAt0_9 : ∀ t : Fin cfg0.N, cfg0.idle 9 (grid0.coords t) = false := fun _ => rfl
/-- Window 10 is never idle. -/
theorem liveAt0_10 : ∀ t : Fin cfg0.N, cfg0.idle 10 (grid0.coords t) = false := fun _ => rfl
/-- Window 11 is never idle. -/
theorem liveAt0_11 : ∀ t : Fin cfg0.N, cfg0.idle 11 (grid0.coords t) = false := fun _ => rfl
/-- Window 12 is never idle. -/
theorem liveAt0_12 : ∀ t : Fin cfg0.N, cfg0.idle 12 (grid0.coords t) = false := fun _ => rfl
/-- Window 13 is never idle. -/
theorem liveAt0_13 : ∀ t : Fin cfg0.N, cfg0.idle 13 (grid0.coords t) = false := fun _ => rfl
/-- Window 14 is never idle. -/
theorem liveAt0_14 : ∀ t : Fin cfg0.N, cfg0.idle 14 (grid0.coords t) = false := fun _ => rfl
/-- Whether output 15's buffer is fresh at each position `1 ‥ N` — holds nothing the body stored since the region's entry or the last write-back. -/
def freshTab0_15 : ℕ → Bool
  | 0 => true
  | n + 1 => (0x17fffffffffffffffffffffffffffffff : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- At the first point the printed configuration. -/
theorem liveAt0_15_A : ∀ t : Fin cfg0.N, cond0_0 (grid0.coords t) → cond0_1 (grid0.coords t) → ¬cond0_2 (grid0.coords t) → cfg0.idle 15 (grid0.coords t) = false := by decide +kernel
/-- At a middle point the printed configuration. -/
theorem liveAt0_15_B : ∀ t : Fin cfg0.N, ¬cond0_0 (grid0.coords t) → cond0_1 (grid0.coords t) → ¬cond0_2 (grid0.coords t) → cfg0.idle 15 (grid0.coords t) = false := by decide +kernel
/-- At the last point the printed configuration. -/
theorem idleAt0_15_C : ∀ t : Fin cfg0.N, ¬cond0_0 (grid0.coords t) → ¬cond0_1 (grid0.coords t) → cond0_2 (grid0.coords t) → cfg0.idle 15 (grid0.coords t) = true := by decide +kernel
/-- At the last point the pipeline writes output 15's block back. -/
theorem flushAt0_15_C : ∀ t : Fin cfg0.N, ¬cond0_0 (grid0.coords t) → ¬cond0_1 (grid0.coords t) → cond0_2 (grid0.coords t) → (cfg0.win 15).flush t = true := by decide +kernel
/-- At the last point, which keeps output 15's prior contents. -/
theorem notFresh0_15_C : ∀ t : Fin cfg0.N, ¬cond0_0 (grid0.coords t) → ¬cond0_1 (grid0.coords t) → cond0_2 (grid0.coords t) → cfg0.fresh 15 t.val = false := by
  intro t; rw [fresh0_15_eq t]; revert t; decide +kernel
/-- At the first point the printed configuration. -/
theorem liveAt0_16_A : ∀ t : Fin cfg0.N, cond0_0 (grid0.coords t) → cond0_1 (grid0.coords t) → ¬cond0_2 (grid0.coords t) → cfg0.idle 16 (grid0.coords t) = false := by decide +kernel
/-- At a middle point the printed configuration. -/
theorem liveAt0_16_B : ∀ t : Fin cfg0.N, ¬cond0_0 (grid0.coords t) → cond0_1 (grid0.coords t) → ¬cond0_2 (grid0.coords t) → cfg0.idle 16 (grid0.coords t) = false := by decide +kernel
/-- At the last point the printed configuration. -/
theorem liveAt0_16_C : ∀ t : Fin cfg0.N, ¬cond0_0 (grid0.coords t) → ¬cond0_1 (grid0.coords t) → cond0_2 (grid0.coords t) → cfg0.idle 16 (grid0.coords t) = false := by decide +kernel
/-- At the first point the printed configuration. -/
theorem liveAt0_17_A : ∀ t : Fin cfg0.N, cond0_0 (grid0.coords t) → cond0_1 (grid0.coords t) → ¬cond0_2 (grid0.coords t) → cfg0.idle 17 (grid0.coords t) = false := by decide +kernel
/-- At a middle point the printed configuration. -/
theorem liveAt0_17_B : ∀ t : Fin cfg0.N, ¬cond0_0 (grid0.coords t) → cond0_1 (grid0.coords t) → ¬cond0_2 (grid0.coords t) → cfg0.idle 17 (grid0.coords t) = false := by decide +kernel
/-- At the last point the printed configuration. -/
theorem liveAt0_17_C : ∀ t : Fin cfg0.N, ¬cond0_0 (grid0.coords t) → ¬cond0_1 (grid0.coords t) → cond0_2 (grid0.coords t) → cfg0.idle 17 (grid0.coords t) = false := by decide +kernel
/-- At the first point the printed configuration. -/
theorem liveAt0_18_A : ∀ t : Fin cfg0.N, cond0_0 (grid0.coords t) → cond0_1 (grid0.coords t) → ¬cond0_2 (grid0.coords t) → cfg0.idle 18 (grid0.coords t) = false := by decide +kernel
/-- At a middle point the printed configuration. -/
theorem liveAt0_18_B : ∀ t : Fin cfg0.N, ¬cond0_0 (grid0.coords t) → cond0_1 (grid0.coords t) → ¬cond0_2 (grid0.coords t) → cfg0.idle 18 (grid0.coords t) = false := by decide +kernel
/-- At the last point the printed configuration. -/
theorem liveAt0_18_C : ∀ t : Fin cfg0.N, ¬cond0_0 (grid0.coords t) → ¬cond0_1 (grid0.coords t) → cond0_2 (grid0.coords t) → cfg0.idle 18 (grid0.coords t) = false := by decide +kernel
/-- At the first point the printed configuration. -/
theorem liveAt0_19_A : ∀ t : Fin cfg0.N, cond0_0 (grid0.coords t) → cond0_1 (grid0.coords t) → ¬cond0_2 (grid0.coords t) → cfg0.idle 19 (grid0.coords t) = false := by decide +kernel
/-- At a middle point the printed configuration. -/
theorem liveAt0_19_B : ∀ t : Fin cfg0.N, ¬cond0_0 (grid0.coords t) → cond0_1 (grid0.coords t) → ¬cond0_2 (grid0.coords t) → cfg0.idle 19 (grid0.coords t) = false := by decide +kernel
/-- At the last point the printed configuration. -/
theorem liveAt0_19_C : ∀ t : Fin cfg0.N, ¬cond0_0 (grid0.coords t) → ¬cond0_1 (grid0.coords t) → cond0_2 (grid0.coords t) → cfg0.idle 19 (grid0.coords t) = false := by decide +kernel
/-- At the first point the printed configuration. -/
theorem liveAt0_20_A : ∀ t : Fin cfg0.N, cond0_0 (grid0.coords t) → cond0_1 (grid0.coords t) → ¬cond0_2 (grid0.coords t) → cfg0.idle 20 (grid0.coords t) = false := by decide +kernel
/-- At a middle point the printed configuration. -/
theorem liveAt0_20_B : ∀ t : Fin cfg0.N, ¬cond0_0 (grid0.coords t) → cond0_1 (grid0.coords t) → ¬cond0_2 (grid0.coords t) → cfg0.idle 20 (grid0.coords t) = false := by decide +kernel
/-- At the last point the printed configuration. -/
theorem liveAt0_20_C : ∀ t : Fin cfg0.N, ¬cond0_0 (grid0.coords t) → ¬cond0_1 (grid0.coords t) → cond0_2 (grid0.coords t) → cfg0.idle 20 (grid0.coords t) = false := by decide +kernel
/-- At the first point the printed configuration. -/
theorem liveAt0_21_A : ∀ t : Fin cfg0.N, cond0_0 (grid0.coords t) → cond0_1 (grid0.coords t) → ¬cond0_2 (grid0.coords t) → cfg0.idle 21 (grid0.coords t) = false := by decide +kernel
/-- At a middle point the printed configuration. -/
theorem liveAt0_21_B : ∀ t : Fin cfg0.N, ¬cond0_0 (grid0.coords t) → cond0_1 (grid0.coords t) → ¬cond0_2 (grid0.coords t) → cfg0.idle 21 (grid0.coords t) = false := by decide +kernel
/-- At the last point the printed configuration. -/
theorem liveAt0_21_C : ∀ t : Fin cfg0.N, ¬cond0_0 (grid0.coords t) → ¬cond0_1 (grid0.coords t) → cond0_2 (grid0.coords t) → cfg0.idle 21 (grid0.coords t) = false := by decide +kernel

/-! ## The kernel body on any staging memrefs: a subtype the run finds -/

/-- One staging buffer of output window 15, through which its contents are stated. -/
abbrev VO0_15 : View sig .tc .vmem S512x1024 .f32 := (Memref.whole cc0_stg15_0 : Memref sig .tc .vmem S512x1024 .f32).view
/-- One staging buffer of output window 16, through which its contents are stated. -/
abbrev VO0_16 : View sig .tc .vmem S1x2x1024x256 .bf16 := (Memref.whole cc0_stg16_0 : Memref sig .tc .vmem S1x2x1024x256 .bf16).view
/-- One staging buffer of output window 17, through which its contents are stated. -/
abbrev VO0_17 : View sig .tc .vmem S512x1024 .bf16 := (Memref.whole cc0_stg17_0 : Memref sig .tc .vmem S512x1024 .bf16).view
/-- One staging buffer of output window 18, through which its contents are stated. -/
abbrev VO0_18 : View sig .tc .vmem S1x2x640x256 .bf16 := (Memref.whole cc0_stg18_0 : Memref sig .tc .vmem S1x2x640x256 .bf16).view
/-- One staging buffer of output window 19, through which its contents are stated. -/
abbrev VO0_19 : View sig .tc .vmem S1x4x512x128 .bf16 := (Memref.whole cc0_stg19_0 : Memref sig .tc .vmem S1x4x512x128 .bf16).view
/-- One staging buffer of output window 20, through which its contents are stated. -/
abbrev VO0_20 : View sig .tc .vmem S512x256 .bf16 := (Memref.whole cc0_stg20_0 : Memref sig .tc .vmem S512x256 .bf16).view
/-- One staging buffer of output window 21, through which its contents are stated. -/
abbrev VO0_21 : View sig .tc .vmem S1x4x160x128 .bf16 := (Memref.whole cc0_stg21_0 : Memref sig .tc .vmem S1x4x160x128 .bf16).view
/-- Each window's current staging memref at point `t`, spelled as the pipeline passes it. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x384 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x2x1024x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x2x640x256 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x4x512x128 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x4x160x128 .bf16 := win0_21.stage (cfg0.slots t 21)
abbrev hs0_21 (t : Fin cfg0.N) : (ms0_21 t).IsWhole := hstage0_21 ((cfg0.slots t 21).cast nbuf0_21)
/-- The scratch operands. -/
abbrev scM0_0 : Memref sig .tc .vmem S512x1024 .bf16 := Memref.whole cc0_scratch0
abbrev scM0_1 : Memref sig .tc .vmem S512x1024 .f32 := Memref.whole cc0_scratch1
/-- The scratch `arg23` the kernel carries between points, as a view. -/
abbrev VS0_0 : View sig .tc .vmem S512x1024 .bf16 := scM0_0.view
/-- The scratch `arg24` the kernel carries between points, as a view. -/
abbrev VS0_1 : View sig .tc .vmem S512x1024 .f32 := scM0_1.view

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Gen

end
-- ==== Proof.Ffn1RunA.lean ====
/- The body's run at the first point. -/
module

public import proofs.«01_k».proof.Proof.Ffn1Runs

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long, so its run is
set_option maxHeartbeats 8000000 in
/-- What the body's stores leave in each output's staging memref, as pieces. -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : cond0_0 i) (hc1 : cond0_1 i) (hc2 : ¬cond0_2 i)
    (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) :
    Σ' (L15 : List (View.Piece (Elt F) S512x1024 .f32)), Σ' (L16 : List (View.Piece (Elt F) S1x2x1024x256 .bf16)), Σ' (L17 : List (View.Piece (Elt F) S512x1024 .bf16)), Σ' (L18 : List (View.Piece (Elt F) S1x2x640x256 .bf16)), Σ' (L19 : List (View.Piece (Elt F) S1x4x512x128 .bf16)), Σ' (L20 : List (View.Piece (Elt F) S512x256 .bf16)), Σ' (L21 : List (View.Piece (Elt F) S1x4x160x128 .bf16)), Σ' (LS0 : List (View.Piece (Elt F) S512x1024 .bf16)), { LS1 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc0_ffn1_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_ffn1_proj_eq_skeleton]; unfold cc0_ffn1_proj_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    iexists _; iexact HS1

end Cert.Kernel3Ideal.Gen

end
-- ==== Proof.Ffn1RunB.lean ====
/- The body's run at a middle point. -/
module

public import proofs.«01_k».proof.Proof.Ffn1Runs

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long, so its run is
set_option maxHeartbeats 8000000 in
/-- What the body's stores leave in each output's staging memref, as pieces. -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xs0 : Vec F S512x1024 .bf16) (xs1 : Vec F S512x1024 .f32) :
    Σ' (L15 : List (View.Piece (Elt F) S512x1024 .f32)), Σ' (L16 : List (View.Piece (Elt F) S1x2x1024x256 .bf16)), Σ' (L17 : List (View.Piece (Elt F) S512x1024 .bf16)), Σ' (L18 : List (View.Piece (Elt F) S1x2x640x256 .bf16)), Σ' (L19 : List (View.Piece (Elt F) S1x4x512x128 .bf16)), Σ' (L20 : List (View.Piece (Elt F) S512x256 .bf16)), Σ' (L21 : List (View.Piece (Elt F) S1x4x160x128 .bf16)), Σ' (LS0 : List (View.Piece (Elt F) S512x1024 .bf16)), { LS1 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc0_ffn1_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_ffn1_proj_eq_skeleton]; unfold cc0_ffn1_proj_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg23.eq_unread hfs0; obtain rfl := harg24.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    iexists _; iexact HS1

end Cert.Kernel3Ideal.Gen

end
-- ==== Proof.Ffn1RunC.lean ====
/- The body's run at the last point. -/
module

public import proofs.«01_k».proof.Proof.Ffn1Runs

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long, so its run is
set_option maxHeartbeats 8000000 in
/-- What the body's stores leave in each output's staging memref, as pieces. -/
noncomputable def kernelRun0_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xo15 : Vec F S512x1024 .f32) (xs0 : Vec F S512x1024 .bf16) (xs1 : Vec F S512x1024 .f32) :
    Σ' (L15 : List (View.Piece (Elt F) S512x1024 .f32)), Σ' (L16 : List (View.Piece (Elt F) S1x2x1024x256 .bf16)), Σ' (L17 : List (View.Piece (Elt F) S512x1024 .bf16)), Σ' (L18 : List (View.Piece (Elt F) S1x2x640x256 .bf16)), Σ' (L19 : List (View.Piece (Elt F) S1x4x512x128 .bf16)), Σ' (L20 : List (View.Piece (Elt F) S512x256 .bf16)), Σ' (L21 : List (View.Piece (Elt F) S1x4x160x128 .bf16)), Σ' (LS0 : List (View.Piece (Elt F) S512x1024 .bf16)), { LS1 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ owns (c : Thread nD τ) arg23 fullShare xs0 ∗ owns (c : Thread nD τ) arg24 fullShare xs1) -∗ K ⟨⟩))
          ⊢ wp frame (wpE (defs₀ (F := F)) Variants.none c none) E (cc0_ffn1_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, ?_, ?_, ?_, ?_, ?_, [], [], fun E K => ?run⟩
  case run =>
    simp only [cc0_ffn1_proj_eq_skeleton]; unfold cc0_ffn1_proj_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg23.eq_unread hfs0; obtain rfl := harg24.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]
    · iexists _; isplitr; · ipureintro; exact harg23.read_unread _
      iexact HS0
    iexists _; isplitr; · ipureintro; exact harg24.read_unread _
    iexact HS1

end Cert.Kernel3Ideal.Gen

end
-- ==== Proof.Ffn1Covers.lean ====
/- What each kind of point leaves in the windows and in the scratch: the stores tile the block, so the block is what they stored. -/
module

public import proofs.«01_k».proof.Proof.Ffn1RunA
public import proofs.«01_k».proof.Proof.Ffn1RunB
public import proofs.«01_k».proof.Proof.Ffn1RunC
public import Idealize.ShloMosaic.Lib.Claim

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : cond0_0 i) (hc1 : cond0_1 i) (hc2 : ¬cond0_2 i) (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32)

/-- The first point's pieces for output 15 tile its block. -/
theorem cover0_A_15 (y : S512x1024.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).1 S512x1024.size (by sl_kernel_rfl) y

/-- What the first point leaves in output 15's staging buffer. -/
def out0_A_15 : Vec F S512x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).1)

/-- The first point's pieces for output 16 tile its block. -/
theorem cover0_A_16 (y : S1x2x1024x256.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.1 S1x1x128x256.size (by sl_kernel_rfl) y

/-- What the first point leaves in output 16's staging buffer. -/
def out0_A_16 : Vec F S1x2x1024x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.1)

/-- The first point's pieces for output 17 tile its block. -/
theorem cover0_A_17 (y : S512x1024.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.1 S512x128.size (by sl_kernel_rfl) y

/-- What the first point leaves in output 17's staging buffer. -/
def out0_A_17 : Vec F S512x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.1)

/-- The first point's pieces for output 18 tile its block. -/
theorem cover0_A_18 (y : S1x2x640x256.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.1 S1x1x640x256.size (by sl_kernel_rfl) y

/-- What the first point leaves in output 18's staging buffer. -/
def out0_A_18 : Vec F S1x2x640x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.1)

/-- The first point's pieces for output 19 tile its block. -/
theorem cover0_A_19 (y : S1x4x512x128.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.1 S1x1x512x128.size (by sl_kernel_rfl) y

/-- What the first point leaves in output 19's staging buffer. -/
def out0_A_19 : Vec F S1x4x512x128 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.1)

/-- The first point's pieces for output 20 tile its block. -/
theorem cover0_A_20 (y : S512x256.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.1 S512x64.size (by sl_kernel_rfl) y

/-- What the first point leaves in output 20's staging buffer. -/
def out0_A_20 : Vec F S512x256 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.1)

/-- The first point's pieces for output 21 tile its block. -/
theorem cover0_A_21 (y : S1x4x160x128.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.1 S1x1x160x128.size (by sl_kernel_rfl) y

/-- What the first point leaves in output 21's staging buffer. -/
def out0_A_21 : Vec F S1x4x160x128 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.1)

/-- The first point's pieces for scratch `arg23`, which the kernel carries between points, cover it. -/
theorem scover0_A_0 (y : S512x1024.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.2.1 S512x1024.size (by sl_kernel_rfl) y

/-- What the first point leaves in scratch `arg23`. -/
def sout0_A_0 : Vec F S512x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.2.1)

/-- The first point's pieces for scratch `arg24`, which the kernel carries between points, cover it. -/
theorem scover0_A_1 (y : S512x1024.Idx):
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.2.2.1 S512x1024.size (by sl_kernel_rfl) y

/-- What the first point leaves in scratch `arg24`. -/
def sout0_A_1 : Vec F S512x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14).2.2.2.2.2.2.2.2.1)

end

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : cond0_1 i) (hc2 : ¬cond0_2 i) (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xs0 : Vec F S512x1024 .bf16) (xs1 : Vec F S512x1024 .f32)

/-- A middle point's pieces for output 15 tile its block. -/
theorem cover0_B_15 (y : S512x1024.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).1 S512x1024.size (by sl_kernel_rfl) y

/-- What a middle point leaves in output 15's staging buffer. -/
def out0_B_15 : Vec F S512x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).1)

/-- A middle point's pieces for output 16 tile its block. -/
theorem cover0_B_16 (y : S1x2x1024x256.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.1 S1x1x128x256.size (by sl_kernel_rfl) y

/-- What a middle point leaves in output 16's staging buffer. -/
def out0_B_16 : Vec F S1x2x1024x256 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.1)

/-- A middle point's pieces for output 17 tile its block. -/
theorem cover0_B_17 (y : S512x1024.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.1 S512x128.size (by sl_kernel_rfl) y

/-- What a middle point leaves in output 17's staging buffer. -/
def out0_B_17 : Vec F S512x1024 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.1)

/-- A middle point's pieces for output 18 tile its block. -/
theorem cover0_B_18 (y : S1x2x640x256.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.1 S1x1x640x256.size (by sl_kernel_rfl) y

/-- What a middle point leaves in output 18's staging buffer. -/
def out0_B_18 : Vec F S1x2x640x256 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.1)

/-- A middle point's pieces for output 19 tile its block. -/
theorem cover0_B_19 (y : S1x4x512x128.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.1 S1x1x512x128.size (by sl_kernel_rfl) y

/-- What a middle point leaves in output 19's staging buffer. -/
def out0_B_19 : Vec F S1x4x512x128 .bf16 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.1)

/-- A middle point's pieces for output 20 tile its block. -/
theorem cover0_B_20 (y : S512x256.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.1 S512x64.size (by sl_kernel_rfl) y

/-- What a middle point leaves in output 20's staging buffer. -/
def out0_B_20 : Vec F S512x256 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.1)

/-- A middle point's pieces for output 21 tile its block. -/
theorem cover0_B_21 (y : S1x4x160x128.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.1 S1x1x160x128.size (by sl_kernel_rfl) y

/-- What a middle point leaves in output 21's staging buffer. -/
def out0_B_21 : Vec F S1x4x160x128 .bf16 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.1)

/-- A middle point's pieces for scratch `arg23`, which the kernel carries between points, cover it. -/
theorem scover0_B_0 (y : S512x1024.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.2.1 S512x1024.size (by sl_kernel_rfl) y

/-- What a middle point leaves in scratch `arg23`. -/
def sout0_B_0 : Vec F S512x1024 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.2.1)

/-- A middle point's pieces for scratch `arg24`, which the kernel carries between points, cover it. -/
theorem scover0_B_1 (y : S512x1024.Idx):
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.2.2.1 S512x1024.size (by sl_kernel_rfl) y

/-- What a middle point leaves in scratch `arg24`. -/
def sout0_B_1 : Vec F S512x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xs0 xs1).2.2.2.2.2.2.2.2.1)

end

/-- The last point stores nothing into output 15, whose block is written back there. -/
def out0_C_15 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : ¬cond0_1 i) (hc2 : cond0_2 i) (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xo15 : Vec F S512x1024 .f32) (xs0 : Vec F S512x1024 .bf16) (xs1 : Vec F S512x1024 .f32) : Vec F S512x1024 .f32 := xo15

/-- The last point stores nothing into scratch `arg23`. -/
def sout0_C_0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : ¬cond0_1 i) (hc2 : cond0_2 i) (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xo15 : Vec F S512x1024 .f32) (xs0 : Vec F S512x1024 .bf16) (xs1 : Vec F S512x1024 .f32) : Vec F S512x1024 .bf16 := xs0

/-- The last point stores nothing into scratch `arg24`. -/
def sout0_C_1 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : ¬cond0_1 i) (hc2 : cond0_2 i) (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xo15 : Vec F S512x1024 .f32) (xs0 : Vec F S512x1024 .bf16) (xs1 : Vec F S512x1024 .f32) : Vec F S512x1024 .f32 := xs1

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1280 .bf16) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S512x128 .bf16) (harg13 : arg13.IsWhole) (arg14 : Memref sig .tc .vmem S32x512 .f32) (harg14 : arg14.IsWhole) (arg15 : Memref sig .tc .vmem S512x384 .f32) (harg15 : arg15.IsWhole) (arg16 : Memref sig .tc .vmem S512x1024 .f32) (harg16 : arg16.IsWhole) (arg17 : Memref sig .tc .vmem S1x2x1024x256 .bf16) (harg17 : arg17.IsWhole) (arg18 : Memref sig .tc .vmem S512x1024 .bf16) (harg18 : arg18.IsWhole) (arg19 : Memref sig .tc .vmem S1x2x640x256 .bf16) (harg19 : arg19.IsWhole) (arg20 : Memref sig .tc .vmem S1x4x512x128 .bf16) (harg20 : arg20.IsWhole) (arg21 : Memref sig .tc .vmem S512x256 .bf16) (harg21 : arg21.IsWhole) (arg22 : Memref sig .tc .vmem S1x4x160x128 .bf16) (harg22 : arg22.IsWhole) (arg23 : Memref sig .tc .vmem S512x1024 .bf16) (harg23 : arg23.IsWhole) (arg24 : Memref sig .tc .vmem S512x1024 .f32) (harg24 : arg24.IsWhole) (hc0 : ¬cond0_0 i) (hc1 : ¬cond0_1 i) (hc2 : cond0_2 i) (x0 : Vec F S512x1024 .f32) (x1 : Vec F S512x1024 .f32) (x2 : Vec F S1x1024 .f32) (x3 : Vec F S1024x2816 .bf16) (x4 : Vec F S1024x2816 .bf16) (x5 : Vec F S2816x1024 .bf16) (x6 : Vec F S1x1024 .f32) (x7 : Vec F S1024x1280 .bf16) (x8 : Vec F S1x256 .f32) (x9 : Vec F S1024x256 .bf16) (x10 : Vec F S1x128 .f32) (x11 : Vec F S128x1024 .bf16) (x12 : Vec F S512x128 .bf16) (x13 : Vec F S32x512 .f32) (x14 : Vec F S512x384 .f32) (xo15 : Vec F S512x1024 .f32) (xs0 : Vec F S512x1024 .bf16) (xs1 : Vec F S512x1024 .f32)

/-- The last point's pieces for output 16 tile its block. -/
theorem cover0_C_16 (y : S1x2x1024x256.Idx):
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.1 S1x1x128x256.size (by sl_kernel_rfl) y

/-- What the last point leaves in output 16's staging buffer. -/
def out0_C_16 : Vec F S1x2x1024x256 .bf16 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.1)

/-- The last point's pieces for output 17 tile its block. -/
theorem cover0_C_17 (y : S512x1024.Idx):
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.1 S512x128.size (by sl_kernel_rfl) y

/-- What the last point leaves in output 17's staging buffer. -/
def out0_C_17 : Vec F S512x1024 .bf16 :=
  VO0_17.read (Elt F) (VO0_17.writes (Elt F) VO0_17.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.1)

/-- The last point's pieces for output 18 tile its block. -/
theorem cover0_C_18 (y : S1x2x640x256.Idx):
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.1 S1x1x640x256.size (by sl_kernel_rfl) y

/-- What the last point leaves in output 18's staging buffer. -/
def out0_C_18 : Vec F S1x2x640x256 .bf16 :=
  VO0_18.read (Elt F) (VO0_18.writes (Elt F) VO0_18.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.1)

/-- The last point's pieces for output 19 tile its block. -/
theorem cover0_C_19 (y : S1x4x512x128.Idx):
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.1 S1x1x512x128.size (by sl_kernel_rfl) y

/-- What the last point leaves in output 19's staging buffer. -/
def out0_C_19 : Vec F S1x4x512x128 .bf16 :=
  VO0_19.read (Elt F) (VO0_19.writes (Elt F) VO0_19.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.1)

/-- The last point's pieces for output 20 tile its block. -/
theorem cover0_C_20 (y : S512x256.Idx):
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.2.1 S512x64.size (by sl_kernel_rfl) y

/-- What the last point leaves in output 20's staging buffer. -/
def out0_C_20 : Vec F S512x256 .bf16 :=
  VO0_20.read (Elt F) (VO0_20.writes (Elt F) VO0_20.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.2.1)

/-- The last point's pieces for output 21 tile its block. -/
theorem cover0_C_21 (y : S1x4x160x128.Idx):
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.2.2.1 S1x1x160x128.size (by sl_kernel_rfl) y

/-- What the last point leaves in output 21's staging buffer. -/
def out0_C_21 : Vec F S1x4x160x128 .bf16 :=
  VO0_21.read (Elt F) (VO0_21.writes (Elt F) VO0_21.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 x13 x14 xo15 xs0 xs1).2.2.2.2.2.2.1)

end

end Cert.Kernel3Ideal.Gen
-- ==== Proof.Ffn1Points.lean ====
/- What each point of the first call leaves, over what the point before it left. -/
module

public import proofs.«01_k».proof.Proof.Ffn1Covers

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the seven results and the contents of the two scratch buffers after a point. -/
abbrev PointOuts : Type :=
  Vec F S512x1024 .f32 × Vec F S1x2x1024x256 .bf16 × Vec F S512x1024 .bf16 × Vec F S1x2x640x256 .bf16 × Vec F S1x4x512x128 .bf16 × Vec F S512x256 .bf16 × Vec F S1x4x160x128 .bf16 × Vec F S512x1024 .bf16 × Vec F S512x1024 .f32

/-- What the first point leaves. -/
def atA (c : Dev nD) (t : Fin cfg0.N) (h0 : t.val % 129 = 0) (h1 : t.val < 128) (h2 : ¬t.val % 129 = 128) : PointOuts (F := F) :=
  (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))

/-- What a middle point leaves, over what the point before it left. -/
def atB (c : Dev nD) (t : Fin cfg0.N) (h0 : ¬t.val % 129 = 0) (h1 : t.val < 128) (h2 : ¬t.val % 129 = 128) (p : PointOuts (F := F)) : PointOuts (F := F) :=
  (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.2.1 p.2.2.2.2.2.2.2.2)

/-- What the last point leaves, over what the point before it left. -/
def atC (c : Dev nD) (t : Fin cfg0.N) (h0 : ¬t.val % 129 = 0) (h1 : ¬t.val < 128) (h2 : t.val % 129 = 128) (p : PointOuts (F := F)) : PointOuts (F := F) :=
  (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.1 p.2.2.2.2.2.2.2.1 p.2.2.2.2.2.2.2.2)

/-- What the point after position `n` leaves, over what the point at `n` left: the kind of point says what it stores. -/
def stepAt (c : Dev nD) (n : ℕ) (hn : n + 1 < cfg0.N) (p : PointOuts (F := F)) : PointOuts (F := F) :=
  if h0 : (n + 1) % 129 = 0 then
    False.elim (by have hN : n + 1 < 129 := lt_of_lt_of_eq hn (show cfg0.N = 129 from N_0); omega)
  else
    if h1 : (n + 1) < 128 then
      atB m c ⟨n + 1, hn⟩ h0 h1 (by dsimp only; omega) p
    else
      atC m c ⟨n + 1, hn⟩ h0 h1 (by have hN : n + 1 < 129 := lt_of_lt_of_eq hn (show cfg0.N = 129 from N_0); dsimp only; omega) p

theorem stepAt_B (c : Dev nD) (n : ℕ) (hn : n + 1 < cfg0.N) (p : PointOuts (F := F)) (h0 : ¬(n + 1) % 129 = 0) (h1 : n + 1 < 128) (h2 : ¬(n + 1) % 129 = 128) :
    stepAt m c n hn p = atB m c ⟨n + 1, hn⟩ h0 h1 h2 p := by
  unfold stepAt
  rw [dif_neg h0, dif_pos h1]

theorem stepAt_C (c : Dev nD) (n : ℕ) (hn : n + 1 < cfg0.N) (p : PointOuts (F := F)) (h0 : ¬(n + 1) % 129 = 0) (h1 : ¬n + 1 < 128) (h2 : (n + 1) % 129 = 128) :
    stepAt m c n hn p = atC m c ⟨n + 1, hn⟩ h0 h1 h2 p := by
  unfold stepAt
  rw [dif_neg h0, dif_neg h1]

/-- What the point at position `n` leaves. -/
def outsAt0 (c : Dev nD) : (n : ℕ) → n < cfg0.N → PointOuts (F := F)
  | 0, hn => atA m c ⟨0, hn⟩ (Nat.zero_mod _) (Nat.zero_lt_succ _) (fun h => Nat.noConfusion ((Nat.zero_mod _).symm.trans h))
  | n + 1, hn => stepAt m c n hn (outsAt0 c n (Nat.lt_of_succ_lt hn))

theorem outsAt0_succ (c : Dev nD) (n : ℕ) (hn : n + 1 < cfg0.N) :
    outsAt0 m c (n + 1) hn = stepAt m c n hn (outsAt0 m c n (Nat.lt_of_succ_lt hn)) := rfl

theorem outsAt0_A (c : Dev nD) (t : Fin cfg0.N) (h0 : t.val % 129 = 0) (h1 : t.val < 128) (h2 : ¬t.val % 129 = 128) :
    outsAt0 m c t.val t.isLt = atA m c t h0 h1 h2 := by
  obtain ⟨n, hn⟩ := t
  cases n with
  | zero => rfl
  | succ n => exfalso; dsimp only at h0 h1; omega

theorem outsAt0_B (c : Dev nD) (t : Fin cfg0.N) (h0 : ¬t.val % 129 = 0) (h1 : t.val < 128) (h2 : ¬t.val % 129 = 128) :
    outsAt0 m c t.val t.isLt = atB m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (outsAt0_succ m c n hn).trans (stepAt_B m c n hn _ h0 h1 h2)

theorem outsAt0_C (c : Dev nD) (t : Fin cfg0.N) (h0 : ¬t.val % 129 = 0) (h1 : ¬t.val < 128) (h2 : t.val % 129 = 128) :
    outsAt0 m c t.val t.isLt = atC m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (outsAt0_succ m c n hn).trans (stepAt_C m c n hn _ h0 h1 h2)

end Cert.Kernel3Ideal.Gen

end
-- ==== Proof.Ffn1Run.lean ====
/- The kernel of the first feed-forward block: what a grid point leaves in its result's block and in its carried buffer. -/
module

public import proofs.«01_k».proof.Proof.Ffn1Step
public import proofs.«01_k».proof.Proof.Ffn1Points
public import Idealize.ShloMosaic.Lib.Pipeline.ReadBack

@[expose] public section

set_option maxRecDepth 16384

noncomputable section

namespace Cert.Proof.Ffn1

open Idealize.ShloMosaic Idealize.ShloMosaic.TcCoe Idealize.SL.Sem
open Cert.Kernel3Ideal Cert.Kernel3Ideal.Gen

variable (m : (ℓ : Loc nD τ sig) → Buf (Elt Ideal) ℓ)

/-- The normalised tile a point leaves for the next. -/
def carried (p : PointOuts (F := Ideal)) : Vec Ideal S512x1024 .bf16 := p.2.2.2.2.2.2.2.1

theorem first_norm (c : Dev nD) (t : Fin cfg0.N) (h0 : t.val % 129 = 0) (h1 : t.val < 128) (h2 : ¬t.val % 129 = 128) :
    carried (outsAt0 m c t.val t.isLt) = k0_pay87 (iblk m c 1 t) (iblk m c 2 t) := by
  rw [outsAt0_A m c t h0 h1 h2]
  unfold carried atA
  frame_out
  try rfl

theorem next_norm (c : Dev nD) (t : Fin cfg0.N) (h0 : ¬t.val % 129 = 0) (h1 : t.val < 128) (h2 : ¬t.val % 129 = 128) :
    carried (outsAt0 m c t.val t.isLt) = k0_pay87 (iblk m c 1 t) (iblk m c 2 t) := by
  rw [outsAt0_B m c t h0 h1 h2]
  unfold carried atB
  frame_out
  try rfl

theorem first_state (c : Dev nD) (t : Fin cfg0.N) (h0 : t.val % 129 = 0) (h1 : t.val < 128) (h2 : ¬t.val % 129 = 128) :
    (outsAt0 m c t.val t.isLt).1 = stateTile (iblk m c 0 t) (k0_pay87 (iblk m c 0 t) (iblk m c 2 t)) (iblk m c 3 t) (iblk m c 4 t) (iblk m c 5 t) := by
  rw [outsAt0_A m c t h0 h1 h2]
  unfold atA
  frame_out
  simp (disch := decide) only [View.readCov_fill, first_eq]
  unfold stateTile
  try rfl

theorem next_state (c : Dev nD) (t : Fin cfg0.N) (h0 : ¬t.val % 129 = 0) (h1 : t.val < 128) (h2 : ¬t.val % 129 = 128) :
    (outsAt0 m c t.val t.isLt).1 = stateTile (iblk m c 0 t) (carried (outsAt0 m c (t.val - 1) (by omega))) (iblk m c 3 t) (iblk m c 4 t) (iblk m c 5 t) := by
  rw [outsAt0_B m c t h0 h1 h2]
  unfold atB
  frame_out
  simp only [read_unread_whole]
  unfold stateTile carried
  try rfl

theorem last_state (c : Dev nD) (t : Fin cfg0.N) (h0 : ¬t.val % 129 = 0) (h1 : ¬t.val < 128) (h2 : t.val % 129 = 128) :
    (outsAt0 m c t.val t.isLt).1 = (outsAt0 m c (t.val - 1) (by omega)).1 := by
  rw [outsAt0_C m c t h0 h1 h2]
  unfold atC out0_C_15
  rfl

end Cert.Proof.Ffn1
-- ==== Proof.Ffn1Frame.lean ====
/- The first call's frame: it terminates, no transfer clashes, nothing is left open. -/
module

public import proofs.«01_k».proof.Proof.Ffn1Points

@[expose] public section

-- the blocks' long axes are walked coordinate by coordinate
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel carries between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨_ + 22, h⟩ => absurd h (Nat.not_lt.2 (Nat.le_add_left _ _))
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- Output 15's contents carry through the points that leave it idle. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 129 := lt_of_lt_of_eq t.isLt (show cfg0.N = 129 from N_0)
  rw [after0_15, after0_15]
  by_cases h0 : t.val % 129 = 0
  · by_cases h1 : t.val < 128
    · by_cases h2 : t.val % 129 = 128
      · exfalso; omega
      · rw [liveAt0_15_A t ((hcond0_0 t).mpr h0) ((hcond0_1 t).mpr h1) (fun h => h2 ((hcond0_2 t).mp h))] at hi
        exact absurd hi Bool.false_ne_true
    · exfalso; omega
  · by_cases h1 : t.val < 128
    · by_cases h2 : t.val % 129 = 128
      · exfalso; omega
      · rw [liveAt0_15_B t (fun h => h0 ((hcond0_0 t).mp h)) ((hcond0_1 t).mpr h1) (fun h => h2 ((hcond0_2 t).mp h))] at hi
        exact absurd hi Bool.false_ne_true
    · by_cases h2 : t.val % 129 = 128
      · rw [outsAt0_C m c t h0 h1 h2]
        dsimp only
        unfold atC out0_C_15
        rfl
      · exfalso; omega
/-- At the last point output 15's current staging buffer holds what the point before left. -/
theorem before0_15_C (c : Dev nD) (t : Fin cfg0.N) (h0 : ¬t.val % 129 = 0) (h1 : ¬t.val < 128) (h2 : t.val % 129 = 128) (d) :
    (dats m 0 c).before 15 t d = (outsAt0 m c (t.val - 1) (Nat.lt_of_le_of_lt (Nat.sub_le _ _) t.isLt)).1 := by
  rw [Dat.before_out_traj _ 15 rfl (fun _ _ => rfl) (hcarry0_15 m c) t.val t rfl d,
    if_neg (by rw [notFresh0_15_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 28800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 129 := lt_of_lt_of_eq t.isLt (show cfg0.N = 129 from N_0)
  by_cases h0 : t.val % 129 = 0
  · by_cases h1 : t.val < 128
    · by_cases h2 : t.val % 129 = 128
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_A t ((hcond0_0 t).mpr h0) ((hcond0_1 t).mpr h1) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_A t ((hcond0_0 t).mpr h0) ((hcond0_1 t).mpr h1) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_A t ((hcond0_0 t).mpr h0) ((hcond0_1 t).mpr h1) (fun h => h2 ((hcond0_2 t).mp h))], after0_19]
        rw [show (dats m 0 c).leavesExact 20 t = owns (c : Thread nD τ) (ms0_20 t) fullShare ((dats m 0 c).after 20 t) from by
      unfold Dat.leavesExact; rw [liveAt0_20_A t ((hcond0_0 t).mpr h0) ((hcond0_1 t).mpr h1) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_A t ((hcond0_0 t).mpr h0) ((hcond0_1 t).mpr h1) (fun h => h2 ((hcond0_2 t).mp h))], after0_21]
        by_cases hz : t.val = 0
        · rw [PhiS_castSucc m c t, PhiS_zero m c _ _ hz, PhiA0_eq]
          rw [outsAt0_A m c t h0 h1 h2]
          unfold atA out0_A_15 out0_A_16 out0_A_17 out0_A_18 out0_A_19 out0_A_20 out0_A_21 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]
          · unfold owns; iexists _; isplitr
            swap; · iexact H15
            ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H16]
          · unfold owns; iexists _; isplitr
            swap; · iexact H16
            ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H21
          ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · exfalso; have hN : t.val < 129 := lt_of_lt_of_eq t.isLt (show cfg0.N = 129 from N_0); omega
    · exfalso; omega
  · by_cases h1 : t.val < 128
    · by_cases h2 : t.val % 129 = 128
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_B t (fun h => h0 ((hcond0_0 t).mp h)) ((hcond0_1 t).mpr h1) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_B t (fun h => h0 ((hcond0_0 t).mp h)) ((hcond0_1 t).mpr h1) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_B t (fun h => h0 ((hcond0_0 t).mp h)) ((hcond0_1 t).mpr h1) (fun h => h2 ((hcond0_2 t).mp h))], after0_19]
        rw [show (dats m 0 c).leavesExact 20 t = owns (c : Thread nD τ) (ms0_20 t) fullShare ((dats m 0 c).after 20 t) from by
      unfold Dat.leavesExact; rw [liveAt0_20_B t (fun h => h0 ((hcond0_0 t).mp h)) ((hcond0_1 t).mpr h1) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_B t (fun h => h0 ((hcond0_0 t).mp h)) ((hcond0_1 t).mpr h1) (fun h => h2 ((hcond0_2 t).mp h))], after0_21]
        by_cases hz : t.val = 0
        · exfalso; have hN : t.val < 129 := lt_of_lt_of_eq t.isLt (show cfg0.N = 129 from N_0); omega
        · rw [PhiS_castSucc m c t, PhiS_pos m c _ _ hz]
          rw [outsAt0_B m c t h0 h1 h2]
          unfold atB out0_B_15 out0_B_16 out0_B_17 out0_B_18 out0_B_19 out0_B_20 out0_B_21 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]
          · unfold owns; iexists _; isplitr
            swap; · iexact H15
            ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H16]
          · unfold owns; iexists _; isplitr
            swap; · iexact H16
            ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H21
          ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 129 = 128
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [idleAt0_15_C t (fun h => h0 ((hcond0_0 t).mp h)) (fun h => h1 ((hcond0_1 t).mp h)) ((hcond0_2 t).mpr h2), flushAt0_15_C t (fun h => h0 ((hcond0_0 t).mp h)) (fun h => h1 ((hcond0_1 t).mp h)) ((hcond0_2 t).mpr h2)], after0_15]
        rw [show (dats m 0 c).leavesExact 16 t = owns (c : Thread nD τ) (ms0_16 t) fullShare ((dats m 0 c).after 16 t) from by
      unfold Dat.leavesExact; rw [liveAt0_16_C t (fun h => h0 ((hcond0_0 t).mp h)) (fun h => h1 ((hcond0_1 t).mp h)) ((hcond0_2 t).mpr h2)], after0_16]
        rw [show (dats m 0 c).leavesExact 17 t = owns (c : Thread nD τ) (ms0_17 t) fullShare ((dats m 0 c).after 17 t) from by
      unfold Dat.leavesExact; rw [liveAt0_17_C t (fun h => h0 ((hcond0_0 t).mp h)) (fun h => h1 ((hcond0_1 t).mp h)) ((hcond0_2 t).mpr h2)], after0_17]
        rw [show (dats m 0 c).leavesExact 18 t = owns (c : Thread nD τ) (ms0_18 t) fullShare ((dats m 0 c).after 18 t) from by
      unfold Dat.leavesExact; rw [liveAt0_18_C t (fun h => h0 ((hcond0_0 t).mp h)) (fun h => h1 ((hcond0_1 t).mp h)) ((hcond0_2 t).mpr h2)], after0_18]
        rw [show (dats m 0 c).leavesExact 19 t = owns (c : Thread nD τ) (ms0_19 t) fullShare ((dats m 0 c).after 19 t) from by
      unfold Dat.leavesExact; rw [liveAt0_19_C t (fun h => h0 ((hcond0_0 t).mp h)) (fun h => h1 ((hcond0_1 t).mp h)) ((hcond0_2 t).mpr h2)], after0_19]
        rw [show (dats m 0 c).leavesExact 20 t = owns (c : Thread nD τ) (ms0_20 t) fullShare ((dats m 0 c).after 20 t) from by
      unfold Dat.leavesExact; rw [liveAt0_20_C t (fun h => h0 ((hcond0_0 t).mp h)) (fun h => h1 ((hcond0_1 t).mp h)) ((hcond0_2 t).mpr h2)], after0_20]
        rw [show (dats m 0 c).leavesExact 21 t = owns (c : Thread nD τ) (ms0_21 t) fullShare ((dats m 0 c).after 21 t) from by
      unfold Dat.leavesExact; rw [liveAt0_21_C t (fun h => h0 ((hcond0_0 t).mp h)) (fun h => h1 ((hcond0_1 t).mp h)) ((hcond0_2 t).mpr h2)], after0_21]
        by_cases hz : t.val = 0
        · exfalso; have hN : t.val < 129 := lt_of_lt_of_eq t.isLt (show cfg0.N = 129 from N_0); omega
        · rw [PhiS_castSucc m c t, PhiS_pos m c _ _ hz]
          rw [outsAt0_C m c t h0 h1 h2]
          simp only [before0_15_C m c t h0 h1 h2]
          unfold atC out0_C_15 out0_C_16 out0_C_17 out0_C_18 out0_C_19 out0_C_20 out0_C_21 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H21
          ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 129 := N_0; omega)

/-! ## The run and the frame -/

-- `θ_run_frame_track_shared`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: `Cert.quiescent_Kernel3Ideal`'s statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel3Ideal.Gen
-- ==== Proof.Ffn1Args.lean ====
/- The blocks the kernel of the first feed-forward block is given, entry by entry, in terms of its arguments. -/
module

public import proofs.«01_k».proof.Proof.Ffn1Step
public import proofs.«01_k».proof.Proof.Gen.Kernel3Ideal.Frame
public import Idealize.ShloMosaic.Lib.Claim

@[expose] public section

set_option maxRecDepth 16384

noncomputable section

namespace Cert.Proof.Ffn1

open Idealize.ShloMosaic Idealize.ShloMosaic.TcCoe Idealize.SL.Sem
open Cert.Kernel3Ideal Cert.Kernel3Ideal.Gen

/-- The blocks of a grid point. -/
theorem idx_val : ∀ t : Fin cfg0.N, (win0_0.index t 0 = min (t : ℕ) 127 ∧ win0_0.index t 1 = 0)
    ∧ (win0_1.index t 0 = min ((t : ℕ) + 1) 127 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_15.index t 0 = min (t : ℕ) 127 ∧ win0_15.index t 1 = 0) :=
  (by decide +kernel : ∀ t : Fin grid0.N, (win0_0.index t 0 = min (t : ℕ) 127 ∧ win0_0.index t 1 = 0)
    ∧ (win0_1.index t 0 = min ((t : ℕ) + 1) 127 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_15.index t 0 = min (t : ℕ) 127 ∧ win0_15.index t 1 = 0))

variable (m : (ℓ : Loc nD τ sig) → Buf (Elt Ideal) ℓ)

/-- The row of a token. -/
def xrow (c : Dev nD) (r : Fin 65536) (j : Fin 1024) : EReal :=
  (m ((c : Thread nD τ).loc main_arg0) : FVec Ideal S32x2048x1024 .f32) (ix3 ⟨r / 2048, by omega⟩ ⟨r % 2048, by omega⟩ j)
/-- The gain and the weights. -/
def g1 (c : Dev nD) (j : Fin 1024) : EReal := (m ((c : Thread nD τ).loc main_arg1) : FVec Ideal S1x1024 .f32) (ix2 0 j)
def wg (c : Dev nD) (k : Fin 1024) (f : Fin 2816) : EReal := (m ((c : Thread nD τ).loc main_arg2) : FVec Ideal S1x1024x2816 .f32) (ix3 0 k f)
def wu (c : Dev nD) (k : Fin 1024) (f : Fin 2816) : EReal := (m ((c : Thread nD τ).loc main_arg3) : FVec Ideal S1x1024x2816 .f32) (ix3 0 k f)
def wd (c : Dev nD) (f : Fin 2816) (j : Fin 1024) : EReal := (m ((c : Thread nD τ).loc main_arg4) : FVec Ideal S1x2816x1024 .f32) (ix3 0 f j)

theorem v0_at (c : Dev nD) (r : Fin 65536) (j : Fin 1024) : (V m c main_v0 : FVec Ideal S65536x1024 .f32) (ix2 r j) = xrow m c r j := by
  unfold xrow
  simp only [V, hostOps0, hostOps0_1, hostOps0_2, hostOps0_3, hostOps0_4, hostOps0_5, hostOps0_6, List.flatten_cons, List.flatten_nil, List.append_nil, List.cons_append, List.nil_append]
  entry_read
  pointwise
  try rfl

theorem v73_at (c : Dev nD) (j : Fin 1024) : (V m c main_v73 : FVec Ideal S1x1024 .f32) (ix2 0 j) = g1 m c j := by
  unfold g1
  simp only [V, hostOps0, hostOps0_1, hostOps0_2, hostOps0_3, hostOps0_4, hostOps0_5, hostOps0_6, List.flatten_cons, List.flatten_nil, List.append_nil, List.cons_append, List.nil_append]
  entry_read
  pointwise
  try rfl

theorem v75_at (c : Dev nD) (k : Fin 1024) (f : Fin 2816) : (V m c main_v75 : FVec Ideal S1024x2816 .bf16) (ix2 k f) = wg m c k f := by
  unfold wg
  simp only [V, hostOps0, hostOps0_1, hostOps0_2, hostOps0_3, hostOps0_4, hostOps0_5, hostOps0_6, List.flatten_cons, List.flatten_nil, List.append_nil, List.cons_append, List.nil_append]
  entry_read
  pointwise
  try rfl

theorem v77_at (c : Dev nD) (k : Fin 1024) (f : Fin 2816) : (V m c main_v77 : FVec Ideal S1024x2816 .bf16) (ix2 k f) = wu m c k f := by
  unfold wu
  simp only [V, hostOps0, hostOps0_1, hostOps0_2, hostOps0_3, hostOps0_4, hostOps0_5, hostOps0_6, List.flatten_cons, List.flatten_nil, List.append_nil, List.cons_append, List.nil_append]
  entry_read
  pointwise
  try rfl

theorem v79_at (c : Dev nD) (f : Fin 2816) (j : Fin 1024) : (V m c main_v79 : FVec Ideal S2816x1024 .bf16) (ix2 f j) = wd m c f j := by
  unfold wd
  simp only [V, hostOps0, hostOps0_1, hostOps0_2, hostOps0_3, hostOps0_4, hostOps0_5, hostOps0_6, List.flatten_cons, List.flatten_nil, List.append_nil, List.cons_append, List.nil_append]
  entry_read
  pointwise
  try rfl

theorem blk0_at (c : Dev nD) (t : Fin cfg0.N) (i : Fin 512) (j : Fin 1024) :
    (iblk m c 0 t : Vec Ideal S512x1024 .f32) (ix2 i j) = xrow m c ⟨512 * min (t : ℕ) 127 + i, by omega⟩ j := by
  rw [← v0_at]
  blk_simp [iblk, idx_val t]
  refine congrArg (V m c _) ?_
  blk_ext [idx_val t]

theorem blk1_at (c : Dev nD) (t : Fin cfg0.N) (i : Fin 512) (j : Fin 1024) :
    (iblk m c 1 t : Vec Ideal S512x1024 .f32) (ix2 i j) = xrow m c ⟨512 * min ((t : ℕ) + 1) 127 + i, by omega⟩ j := by
  rw [← v0_at]
  blk_simp [iblk, idx_val t]
  refine congrArg (V m c _) ?_
  blk_ext [idx_val t]

theorem blk2_at (c : Dev nD) (t : Fin cfg0.N) (j : Fin 1024) : (iblk m c 2 t : Vec Ideal S1x1024 .f32) (ix2 0 j) = g1 m c j := by
  rw [← v73_at]
  blk_simp [iblk, idx_val t]
  refine congrArg (V m c _) ?_
  blk_ext [idx_val t]

theorem blk3_at (c : Dev nD) (t : Fin cfg0.N) (k : Fin 1024) (f : Fin 2816) : (iblk m c 3 t : Vec Ideal S1024x2816 .bf16) (ix2 k f) = wg m c k f := by
  rw [← v75_at]
  blk_simp [iblk, idx_val t]
  refine congrArg (V m c _) ?_
  blk_ext [idx_val t]

theorem blk4_at (c : Dev nD) (t : Fin cfg0.N) (k : Fin 1024) (f : Fin 2816) : (iblk m c 4 t : Vec Ideal S1024x2816 .bf16) (ix2 k f) = wu m c k f := by
  rw [← v77_at]
  blk_simp [iblk, idx_val t]
  refine congrArg (V m c _) ?_
  blk_ext [idx_val t]

theorem blk5_at (c : Dev nD) (t : Fin cfg0.N) (f : Fin 2816) (j : Fin 1024) : (iblk m c 5 t : Vec Ideal S2816x1024 .bf16) (ix2 f j) = wd m c f j := by
  rw [← v79_at]
  blk_simp [iblk, idx_val t]
  refine congrArg (V m c _) ?_
  blk_ext [idx_val t]

end Cert.Proof.Ffn1
-- ==== Proof.Ffn1Ref.lean ====
/- The reference of the first feed-forward block, token by token. -/
module

public import proofs.«01_k».proof.Proof.Gen.Reference3Ideal.Read
public import proofs.«01_k».proof.Proof.Ffn2Ref

@[expose] public section

set_option maxRecDepth 16384

noncomputable section

namespace Cert.Proof.Ffn1

open Idealize.ShloMosaic Idealize.ShloMosaic.TcCoe Idealize.SL.Sem
open Cert.Reference3Ideal Cert.Reference3Ideal.Read
open Cert.Proof.Ffn2 (eps w1024 half rms act third logistic_eq)

variable (x0 : FVec Ideal S32x2048x1024 .f32) (x1 : FVec Ideal S1x1024 .f32) (x2 x3 : FVec Ideal S1x1024x2816 .f32) (x4 : FVec Ideal S1x2816x1024 .f32)

theorem v13_at (b : Fin 32) (n : Fin 2048) (k : Fin 1024) :
    val_main_v13 (F := Ideal) x0 x1 (ix3 b n k) = rms w1024 (fun k => x0 (ix3 b n k)) (fun k => x1 (ix2 0 k)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem v17_at (b : Fin 32) (n : Fin 2048) (f : Fin 2816) : val_main_v17 (F := Ideal) x0 x1 x2 (ix3 b n f)
    = ∑ k, val_main_v13 (F := Ideal) x0 x1 (ix3 b n k) * x2 (ix3 0 k f) := by
  unfold val_main_v17 val_main_v14
  generalize val_main_v13 (F := Ideal) x0 x1 = y
  pointwise []
  try rfl

theorem v19_at (b : Fin 32) (n : Fin 2048) (f : Fin 2816) : val_main_v19 (F := Ideal) x0 x1 x3 (ix3 b n f)
    = ∑ k, val_main_v13 (F := Ideal) x0 x1 (ix3 b n k) * x3 (ix3 0 k f) := by
  unfold val_main_v19 val_main_v15
  generalize val_main_v13 (F := Ideal) x0 x1 = y
  pointwise []
  try rfl

theorem v20_at (b : Fin 32) (n : Fin 2048) (f : Fin 2816) : val_main_v20 (F := Ideal) x0 x1 x2 x3 (ix3 b n f)
    = act (fun k => val_main_v13 (F := Ideal) x0 x1 (ix3 b n k)) (fun k f => x2 (ix3 0 k f)) (fun k f => x3 (ix3 0 k f)) f := by
  unfold act
  rw [← v17_at, ← v19_at, ← logistic_eq]
  unfold val_main_v20 val_main_v18 val_main_call0_v5 val_main_call0_v4 val_main_call0_v3 val_main_call0_v2 val_main_call0_v1 val_main_call0_v0
  generalize val_main_v17 (F := Ideal) x0 x1 x2 = y
  generalize val_main_v19 (F := Ideal) x0 x1 x3 = z
  pointwise [val_main_call0_cst, val_main_call0_cst_0]
  try rfl

theorem v24_at (b : Fin 32) (n : Fin 2048) (j : Fin 1024) : val_main_v24 (F := Ideal) x0 x1 x2 x3 x4 (ix3 b n j)
    = third (fun j => x0 (ix3 b n j)) (fun j => x1 (ix2 0 j)) (fun k f => x2 (ix3 0 k f)) (fun k f => x3 (ix3 0 k f)) (fun f j => x4 (ix3 0 f j)) j := by
  have e : val_main_v24 (F := Ideal) x0 x1 x2 x3 x4 (ix3 b n j) = x0 (ix3 b n j)
      + half * ∑ f, val_main_v20 (F := Ideal) x0 x1 x2 x3 (ix3 b n f) * x4 (ix3 0 f j) := by
    unfold val_main_v24 val_main_v23 val_main_v22 val_main_v21 val_main_v16 half
    generalize val_main_v20 (F := Ideal) x0 x1 x2 x3 = y
    pointwise [val_main_cst_2]
    try rfl
  rw [e]
  unfold third
  have h : rms w1024 (fun j => x0 (ix3 b n j)) (fun j => x1 (ix2 0 j)) = fun k => val_main_v13 (F := Ideal) x0 x1 (ix3 b n k) :=
    funext fun k => (v13_at x0 x1 b n k).symm
  rw [h]
  exact congrArg (fun z => _ + half * z) (Finset.sum_congr rfl fun f _ => congrArg (· * _) (v20_at x0 x1 x2 x3 b n f))

/-- The reference's result: a token's row. -/
theorem v25_at (r : Fin 65536) (j : Fin 1024) : val_main_v25 (F := Ideal) x0 x1 x2 x3 x4 (ix2 r j)
    = val_main_v24 (F := Ideal) x0 x1 x2 x3 x4 (ix3 ⟨r / 2048, by omega⟩ ⟨r % 2048, by omega⟩ j) := by
  unfold val_main_v25
  generalize val_main_v24 (F := Ideal) x0 x1 x2 x3 x4 = y
  pointwise []
  try rfl

end Cert.Proof.Ffn1
-- ==== Proof.Ffn1Final.lean ====
/- The kernel of the first feed-forward block leaves the reference's result. -/
module

public import proofs.«01_k».proof.Proof.Ffn1Run
public import proofs.«01_k».proof.Proof.Ffn1Frame
public import proofs.«01_k».proof.Proof.Ffn1Args
public import proofs.«01_k».proof.Proof.Ffn1Ref
public import Idealize.ShloMosaic.Lib.Pipeline.Value

@[expose] public section

set_option maxRecDepth 16384

noncomputable section

namespace Cert.Proof.Ffn1

open Idealize.ShloMosaic Idealize.ShloMosaic.TcCoe Idealize.SL.Sem
open Cert.Kernel3Ideal Cert.Kernel3Ideal.Gen
open Cert.Proof.Ffn2 (half rms w1024 act third)

variable (m : (ℓ : Loc nD τ sig) → Buf (Elt Ideal) ℓ)

/-- A token's hidden state after the feed-forward block. -/
def stateRow (c : Dev nD) (r : Fin 65536) : Fin 1024 → EReal := third (xrow m c r) (g1 m c) (wg m c) (wu m c) (wd m c)

/-- A tile's hidden state, from its normalised tokens. -/
theorem stateRow_at (c : Dev nD) (t : Fin cfg0.N) (xn : Vec Ideal S512x1024 .bf16)
    (hx : ∀ i : Fin 512, ∀ k : Fin 1024, xn (ix2 i k) = rms w1024 (xrow m c ⟨512 * min (t : ℕ) 127 + i, by omega⟩) (g1 m c) k) (i : Fin 512) (j : Fin 1024) :
    stateTile (iblk m c 0 t) xn (iblk m c 3 t) (iblk m c 4 t) (iblk m c 5 t) (ix2 i j) = stateRow m c ⟨512 * min (t : ℕ) 127 + i, by omega⟩ j := by
  rw [stateTile_at]
  simp only [hx, blk0_at, blk3_at, blk4_at, blk5_at]
  rfl

/-- A point before the last leaves the next tile's tokens normalised. -/
theorem carried_at (c : Dev nD) (n : ℕ) (hn : n < 128) (i : Fin 512) (k : Fin 1024) :
    carried (outsAt0 m c n (hn.trans (by decide))) (ix2 i k) = rms w1024 (xrow m c ⟨512 * min (n + 1) 127 + i, by omega⟩) (g1 m c) k := by
  have e : carried (outsAt0 m c n (hn.trans (by decide))) = k0_pay87 (iblk m c 1 ⟨n, hn.trans (by decide)⟩) (iblk m c 2 ⟨n, hn.trans (by decide)⟩) := by
    by_cases h : n % 129 = 0
    · exact first_norm m c ⟨n, hn.trans (by decide)⟩ h hn (by dsimp only; omega)
    · exact next_norm m c ⟨n, hn.trans (by decide)⟩ h hn (by dsimp only; omega)
  rw [e, norm_at]
  simp only [blk1_at, blk2_at]

/-- A point before the last leaves its tile's hidden state. -/
theorem tile_state (c : Dev nD) (t : Fin cfg0.N) (ht : t.val < 128) (i : Fin 512) (j : Fin 1024) :
    (outsAt0 m c t.val t.isLt).1 (ix2 i j) = stateRow m c ⟨512 * min (t : ℕ) 127 + i, by omega⟩ j := by
  by_cases h : t.val % 129 = 0
  · rw [first_state m c t h ht (by omega)]
    refine stateRow_at m c t _ (fun i k => ?_) i j
    rw [norm_at]
    simp only [blk0_at, blk2_at]
  · have hx : t.val - 1 + 1 = t.val := by omega
    rw [next_state m c t h ht (by omega)]
    refine stateRow_at m c t _ (fun i k => ?_) i j
    refine (carried_at m c (t.val - 1) (by omega) i k).trans ?_
    simp only [hx]

/-- So does the last point, which keeps the last tile's. -/
theorem tile_out (c : Dev nD) (t : Fin cfg0.N) (i : Fin 512) (j : Fin 1024) :
    (outsAt0 m c t.val t.isLt).1 (ix2 i j) = stateRow m c ⟨512 * min (t : ℕ) 127 + i, by omega⟩ j := by
  by_cases ht : t.val < 128
  · exact tile_state m c t ht i j
  · have hN : t.val < 129 := t.isLt
    have e : t.val = 128 := by omega
    rw [last_state m c t (by omega) ht (by omega)]
    refine (tile_state m c ⟨t.val - 1, by omega⟩ (by dsimp only; omega) i j).trans ?_
    simp only [e]
    rfl

/-- The reference's result, read at a token. -/
theorem reference_at (c : Dev nD) (r : Fin 65536) (j : Fin 1024) :
    Cert.Reference3Ideal.Read.val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 r j) = stateRow m c r j := by
  rw [v25_at, v24_at]
  rfl

/-- The array the launch leaves is the reference's result. -/
theorem ffn1_final (c : Dev nD) : (dats m 0 c).arrAt 15 cfg0.N
    = Cert.Reference3Ideal.Read.val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  have ey : y = ix2 (y 0) (y 1) := funext fun a => by fin_cases a <;> rfl
  have eb : (win0_15.blk t).view.emb y = ix2 ⟨512 * min (t : ℕ) 127 + y 0, by have : (y 0).val < 512 := (y 0).isLt; omega⟩ (y 1) := by
    blk_ext [idx_val t]
  rw [eb]
  exact (congrArg (outsAt0 m c t.val t.isLt).1 ey).trans ((tile_out m c t (y 0) (y 1)).trans (reference_at m c _ _).symm)

end Cert.Proof.Ffn1
-- ==== Proof.Ffn1Value.lean ====
/- The first call's run with the first result's array named. -/
module

public import proofs.«01_k».proof.Proof.Ffn1Frame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- No window stages this argument, so it is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- No window stages this argument, so it is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- No window stages this argument, so it is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- No window stages this argument, so it is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- No window stages this argument, so it is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- No window stages this argument, so it is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- No window stages this argument, so it is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- No window stages this argument, so it is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- No window stages this argument, so it is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- No window stages this argument, so it is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- No window stages this argument, so it is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

set_option maxHeartbeats 8000000 in
/-- The run leaves the first result at what the points wrote back, and the arguments as they were. -/
theorem run_blocks : θ_run defs (onTc (τ := τ) (main (F := F))) ⟨m, fun _ => 0, ρ⟩ fun r => ∀ c : Dev nD,
      r.2.mem ((c : Thread nD τ).loc main_v86_0) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 15,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel3Ideal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Finite
public import proofs.«01_k».proof.Proof.MlaFinal
public import proofs.«01_k».proof.Proof.Ffn2Final
public import proofs.«01_k».proof.Proof.Ffn1Same
public import proofs.«01_k».proof.Proof.Ffn1Final
public import proofs.«01_k».proof.Proof.Ffn1Value

@[expose] public section

noncomputable section

namespace Cert.Proof

open Idealize.ShloMosaic Idealize.SL.Sem Cert.Kernel

/-- The kernel's attention is the problem's, of finite queries and keys. -/
theorem mla_algebraic : algebraic_KernelIdeal_ReferenceIdeal_pre_finite := by
  pair_intro
  · run_from Cert.KernelIdeal.Value.run_blocks m g
  · have hr : ∀ c, Reals m c := fun c => by
      obtain ⟨h0, h1, h2, h3⟩ := hpre c
      exact ⟨finite_0 _ _ _ _ _ h0, finite_1 _ _ _ _ _ h1, finite_2 _ _ _ _ _ h2, finite_3 _ _ _ _ _ h3⟩
    run_from Cert.ReferenceIdeal.Value.run m' g'
    obtain ⟨e0, e1, e2, e3, e4⟩ := hagree c
    rw [mla_final (hr c), Cert.ReferenceIdeal.Read.val_main_v30_eq, e0, e1, e2, e3, e4]

/-- The reference ends with its arguments unchanged; it declares no semaphore. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second reference ends with its arguments unchanged; it declares no semaphore. -/
theorem reference2_frame : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection and the second feed-forward block are the problem's. -/
theorem ffn2_algebraic : algebraic_Kernel2Ideal_Reference2Ideal := by
  pair_intro
  · run_from Cert.Kernel2Ideal.Value.run_blocks m g
  · run_from Cert.Reference2Ideal.Value.run m' g'
    obtain ⟨e0, e1, e2, e3, e4, e5, e6, e7, e8, e9, e10⟩ := hagree c
    rw [Ffn2.ffn2_final, Cert.Reference2Ideal.Read.val_main_v70_eq, e0, e1, e2, e3, e4, e5, e6, e7, e8, e9, e10]

set_option maxHeartbeats 8000000 in
set_option maxRecDepth 100000 in
/-- The first call's kernel runs, and leaves its arguments and counters as they were: its idealization does. -/
theorem kernel3_frame : quiescent_Kernel3 := fun m ρ _ => by
  rw [Ffn1.defs_same, Ffn1.main_same]
  exact Cert.Kernel3Ideal.Gen.frame (F := Bits) m ρ

/-- The first call's reference runs, and leaves its arguments and counters as they were. -/
theorem reference3_frame : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The first call's hidden state is the reference's, over the extended reals. -/
theorem ffn1_algebraic : algebraic_Kernel3Ideal_Reference3Ideal := by
  pair_intro
  · run_from Cert.Kernel3Ideal.Value.run_blocks m g
  · run_from Cert.Reference3Ideal.Value.run m' g'
    obtain ⟨e0, e1, e2, e3, e4, e5, e6, e7, e8, e9, e10⟩ := hagree c
    rw [Ffn1.ffn1_final, Cert.Reference3Ideal.Read.val_main_v25_eq]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  kernel3_frame, fun m ρ _ => Cert.Kernel3Ideal.Gen.frame m ρ, reference3_frame,
  IdealRules.named_const.statement Cert.KernelIdeal.κ "mask" .f32 0xF149F2CA#32 ⊥ rfl, mla_algebraic, trivial, ffn2_algebraic,
  trivial, ffn1_algebraic⟩

end Cert.Proof

end
